-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_v221) = v2 c
          ∧ r.2.mem ((c.tc : Thread Cert.ReferenceIdeal.nD Cert.ReferenceIdeal.τ).loc Cert.ReferenceIdeal.main_v242) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x200x200x7 : Shape := ⟨4, ![6, 200, 200, 7]⟩
abbrev S6x10x200x200 : Shape := ⟨4, ![6, 10, 200, 200]⟩
abbrev S6x200x200 : Shape := ⟨3, ![6, 200, 200]⟩
abbrev S50x7 : Shape := ⟨2, ![50, 7]⟩
abbrev S50 : Shape := ⟨1, ![50]⟩
abbrev S240000x7 : Shape := ⟨2, ![240000, 7]⟩
abbrev S7x240000 : Shape := ⟨2, ![7, 240000]⟩
abbrev S7x1875x128 : Shape := ⟨3, ![7, 1875, 128]⟩
abbrev S10x6x200x200 : Shape := ⟨4, ![10, 6, 200, 200]⟩
abbrev S10x1875x128 : Shape := ⟨3, ![10, 1875, 128]⟩
abbrev S1875x128 : Shape := ⟨2, ![1875, 128]⟩
abbrev S4 : Shape := ⟨1, ![4]⟩
abbrev S7x64x128 : Shape := ⟨3, ![7, 64, 128]⟩
abbrev S10x64x128 : Shape := ⟨3, ![10, 64, 128]⟩
abbrev S64x128 : Shape := ⟨2, ![64, 128]⟩
abbrev S5 : Shape := ⟨1, ![5]⟩
abbrev S1 : Shape := ⟨1, ![1]⟩
abbrev S1x64x128 : Shape := ⟨3, ![1, 64, 128]⟩
abbrev S1x1 : Shape := ⟨2, ![1, 1]⟩
abbrev S1x1x1 : Shape := ⟨3, ![1, 1, 1]⟩
abbrev S_ : Shape := ⟨0, ![]⟩

abbrev nBuf : Space → Nat
  | .hbm => 21
  | .vmem => 6
  | .smem => 4
  | _ => 0

abbrev bufTy : (tb : Table) → Fin (tcTables nBuf tb) → BufTy
  | .hbm, ⟨0, _⟩ => ⟨S6x200x200x7, .f32⟩
  | .hbm, ⟨1, _⟩ => ⟨S6x10x200x200, .f32⟩
  | .hbm, ⟨2, _⟩ => ⟨S6x200x200, .f32⟩
  | .hbm, ⟨3, _⟩ => ⟨S50x7, .f32⟩
  | .hbm, ⟨4, _⟩ => ⟨S50, .i32⟩
  | .hbm, ⟨5, _⟩ => ⟨S240000x7, .f32⟩
  | .hbm, ⟨6, _⟩ => ⟨S7x240000, .f32⟩
  | .hbm, ⟨7, _⟩ => ⟨S7x1875x128, .f32⟩
  | .hbm, ⟨8, _⟩ => ⟨S10x6x200x200, .f32⟩
  | .hbm, ⟨9, _⟩ => ⟨S10x1875x128, .f32⟩
  | .hbm, ⟨10, _⟩ => ⟨S1875x128, .f32⟩
  | .hbm, ⟨11, _⟩ => ⟨S50, .f32⟩
  | .hbm, ⟨12, _⟩ => ⟨S4, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .local _ .vmem, ⟨0, _⟩ => ⟨S7x64x128, .f32⟩
  | .local _ .vmem, ⟨1, _⟩ => ⟨S7x64x128, .f32⟩
  | .local _ .vmem, ⟨2, _⟩ => ⟨S10x64x128, .f32⟩
  | .local _ .vmem, ⟨3, _⟩ => ⟨S10x64x128, .f32⟩
  | .local _ .vmem, ⟨4, _⟩ => ⟨S64x128, .f32⟩
  | .local _ .vmem, ⟨5, _⟩ => ⟨S64x128, .f32⟩
  | .local _ .smem, ⟨0, _⟩ => ⟨S50x7, .f32⟩
  | .local _ .smem, ⟨1, _⟩ => ⟨S50, .f32⟩
  | .local _ .smem, ⟨2, _⟩ => ⟨S4, .f32⟩
  | .local _ .smem, ⟨3, _⟩ => ⟨S5, .f32⟩
  | _, _ => ⟨S6x200x200x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_scratch0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![30], ![false]⟩

def k0_cond2 (i : grid0.Coords) : BitVec 1 :=
  let arg0 : BitVec 32 := BitVec.ofNat 32 (i 0).val
  let c29_i32 : BitVec 32 := 29#32
  let v3620 : BitVec 1 := Scalar.cmpi .eq arg0 c29_i32
  let v3621 : BitVec 32 := Scalar.extui v3620
  let c0_i32_1667 : BitVec 32 := 0#32
  let v3622 : BitVec 1 := Scalar.cmpi .ne v3621 c0_i32_1667
  v3622

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S7x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S50x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S6x200x200x7 : Shape := ⟨4, ![6, 200, 200, 7]⟩
abbrev S6x10x200x200 : Shape := ⟨4, ![6, 10, 200, 200]⟩
abbrev S6x200x200 : Shape := ⟨3, ![6, 200, 200]⟩
abbrev S50x7 : Shape := ⟨2, ![50, 7]⟩
abbrev S50 : Shape := ⟨1, ![50]⟩
abbrev S240000x7 : Shape := ⟨2, ![240000, 7]⟩
abbrev S240000x1 : Shape := ⟨2, ![240000, 1]⟩
abbrev S240000 : Shape := ⟨1, ![240000]⟩
abbrev S_ : Shape := ⟨0, ![]⟩
abbrev S240000x4 : Shape := ⟨2, ![240000, 4]⟩
abbrev S50x1 : Shape := ⟨2, ![50, 1]⟩
abbrev S50x4 : Shape := ⟨2, ![50, 4]⟩
abbrev S1x50 : Shape := ⟨2, ![1, 50]⟩
abbrev S240000x50 : Shape := ⟨2, ![240000, 50]⟩
abbrev S6x200x200x1 : Shape := ⟨4, ![6, 200, 200, 1]⟩
abbrev S1x1x1x10 : Shape := ⟨4, ![1, 1, 1, 10]⟩
abbrev S6x200x200x10 : Shape := ⟨4, ![6, 200, 200, 10]⟩
abbrev S6x1x200x200 : Shape := ⟨4, ![6, 1, 200, 200]⟩

abbrev nBuf : Space → Nat
  | .hbm => 324
  | .vmem => 0
  | .smem => 0
  | _ => 0

abbrev hbmTy0_0 (i : Nat) : BufTy := match i % 128 with
  | 0 => ⟨S6x200x200x7, .f32⟩
  | 1 => ⟨S6x10x200x200, .f32⟩
  | 2 => ⟨S6x200x200, .f32⟩
  | 3 => ⟨S50x7, .f32⟩
  | 4 => ⟨S50, .i32⟩
  | 5 => ⟨S240000x7, .f32⟩
  | 6 => ⟨S240000x1, .f32⟩
  | 7 => ⟨S240000, .f32⟩
  | 8 => ⟨S240000x1, .f32⟩
  | 9 => ⟨S240000, .f32⟩
  | 10 => ⟨S240000x1, .f32⟩
  | 11 => ⟨S240000, .f32⟩
  | 12 => ⟨S240000x1, .f32⟩
  | 13 => ⟨S240000, .f32⟩
  | 14 => ⟨S_, .f32⟩
  | 15 => ⟨S240000, .f32⟩
  | 16 => ⟨S240000, .f32⟩
  | 17 => ⟨S240000, .f32⟩
  | 18 => ⟨S_, .f32⟩
  | 19 => ⟨S240000, .f32⟩
  | 20 => ⟨S240000, .f32⟩
  | 21 => ⟨S240000, .f32⟩
  | 22 => ⟨S_, .f32⟩
  | 23 => ⟨S240000, .f32⟩
  | 24 => ⟨S240000, .f32⟩
  | 25 => ⟨S240000, .f32⟩
  | 26 => ⟨S_, .f32⟩
  | 27 => ⟨S240000, .f32⟩
  | 28 => ⟨S240000, .f32⟩
  | 29 => ⟨S240000, .f32⟩
  | 30 => ⟨S240000x1, .f32⟩
  | 31 => ⟨S240000x1, .f32⟩
  | 32 => ⟨S240000x1, .f32⟩
  | 33 => ⟨S240000x1, .f32⟩
  | 34 => ⟨S240000x4, .f32⟩
  | 35 => ⟨S50x1, .f32⟩
  | 36 => ⟨S50, .f32⟩
  | 37 => ⟨S50x1, .f32⟩
  | 38 => ⟨S50, .f32⟩
  | 39 => ⟨S50x1, .f32⟩
  | 40 => ⟨S50, .f32⟩
  | 41 => ⟨S50x1, .f32⟩
  | 42 => ⟨S50, .f32⟩
  | 43 => ⟨S_, .f32⟩
  | 44 => ⟨S50, .f32⟩
  | 45 => ⟨S50, .f32⟩
  | 46 => ⟨S50, .f32⟩
  | 47 => ⟨S_, .f32⟩
  | 48 => ⟨S50, .f32⟩
  | 49 => ⟨S50, .f32⟩
  | 50 => ⟨S50, .f32⟩
  | 51 => ⟨S_, .f32⟩
  | 52 => ⟨S50, .f32⟩
  | 53 => ⟨S50, .f32⟩
  | 54 => ⟨S50, .f32⟩
  | 55 => ⟨S_, .f32⟩
  | 56 => ⟨S50, .f32⟩
  | 57 => ⟨S50, .f32⟩
  | 58 => ⟨S50, .f32⟩
  | 59 => ⟨S50x1, .f32⟩
  | 60 => ⟨S50x1, .f32⟩
  | 61 => ⟨S50x1, .f32⟩
  | 62 => ⟨S50x1, .f32⟩
  | 63 => ⟨S50x4, .f32⟩
  | 64 => ⟨S240000x1, .f32⟩
  | 65 => ⟨S240000, .f32⟩
  | 66 => ⟨S240000x1, .f32⟩
  | 67 => ⟨S50x1, .f32⟩
  | 68 => ⟨S50, .f32⟩
  | 69 => ⟨S1x50, .f32⟩
  | 70 => ⟨S240000x50, .f32⟩
  | 71 => ⟨S240000x50, .f32⟩
  | 72 => ⟨S240000x50, .f32⟩
  | 73 => ⟨S240000x1, .f32⟩
  | 74 => ⟨S240000, .f32⟩
  | 75 => ⟨S240000x1, .f32⟩
  | 76 => ⟨S50x1, .f32⟩
  | 77 => ⟨S50, .f32⟩
  | 78 => ⟨S1x50, .f32⟩
  | 79 => ⟨S240000x50, .f32⟩
  | 80 => ⟨S240000x50, .f32⟩
  | 81 => ⟨S240000x50, .f32⟩
  | 82 => ⟨S240000x1, .f32⟩
  | 83 => ⟨S240000, .f32⟩
  | 84 => ⟨S240000x1, .f32⟩
  | 85 => ⟨S50x1, .f32⟩
  | 86 => ⟨S50, .f32⟩
  | 87 => ⟨S1x50, .f32⟩
  | 88 => ⟨S240000x50, .f32⟩
  | 89 => ⟨S240000x50, .f32⟩
  | 90 => ⟨S240000x50, .f32⟩
  | 91 => ⟨S240000x1, .f32⟩
  | 92 => ⟨S240000, .f32⟩
  | 93 => ⟨S240000x1, .f32⟩
  | 94 => ⟨S50x1, .f32⟩
  | 95 => ⟨S50, .f32⟩
  | 96 => ⟨S1x50, .f32⟩
  | 97 => ⟨S240000x50, .f32⟩
  | 98 => ⟨S240000x50, .f32⟩
  | 99 => ⟨S240000x50, .f32⟩
  | 100 => ⟨S240000x50, .f32⟩
  | 101 => ⟨S_, .i32⟩
  | 102 => ⟨S_, .f32⟩
  | 103 => ⟨S240000x50, .f32⟩
  | 104 => ⟨S240000x50, .f32⟩
  | 105 => ⟨S240000x50, .f32⟩
  | 106 => ⟨S_, .i32⟩
  | 107 => ⟨S_, .f32⟩
  | 108 => ⟨S240000x50, .f32⟩
  | 109 => ⟨S240000x50, .f32⟩
  | 110 => ⟨S240000x50, .f32⟩
  | 111 => ⟨S240000x1, .f32⟩
  | 112 => ⟨S240000, .f32⟩
  | 113 => ⟨S240000x1, .f32⟩
  | 114 => ⟨S240000, .f32⟩
  | 115 => ⟨S240000, .f32⟩
  | 116 => ⟨S240000x1, .f32⟩
  | 117 => ⟨S240000, .f32⟩
  | 118 => ⟨S240000x1, .f32⟩
  | 119 => ⟨S240000, .f32⟩
  | 120 => ⟨S240000, .f32⟩
  | 121 => ⟨S240000, .f32⟩
  | 122 => ⟨S50x1, .f32⟩
  | 123 => ⟨S50, .f32⟩
  | 124 => ⟨S50x1, .f32⟩
  | 125 => ⟨S50, .f32⟩
  | 126 => ⟨S50, .f32⟩
  | 127 => ⟨S50x1, .f32⟩
  | _ => ⟨S6x200x200x7, .f32⟩

abbrev hbmTy0_1 (i : Nat) : BufTy := match i % 128 with
  | 0 => ⟨S50, .f32⟩
  | 1 => ⟨S50x1, .f32⟩
  | 2 => ⟨S50, .f32⟩
  | 3 => ⟨S50, .f32⟩
  | 4 => ⟨S50, .f32⟩
  | 5 => ⟨S240000x1, .f32⟩
  | 6 => ⟨S1x50, .f32⟩
  | 7 => ⟨S240000x50, .f32⟩
  | 8 => ⟨S240000x50, .f32⟩
  | 9 => ⟨S240000x50, .f32⟩
  | 10 => ⟨S240000x50, .f32⟩
  | 11 => ⟨S_, .f32⟩
  | 12 => ⟨S240000x50, .f32⟩
  | 13 => ⟨S240000x50, .f32⟩
  | 14 => ⟨S240000x50, .f32⟩
  | 15 => ⟨S_, .f32⟩
  | 16 => ⟨S240000, .f32⟩
  | 17 => ⟨S240000x50, .i32⟩
  | 18 => ⟨S_, .f32⟩
  | 19 => ⟨S_, .i32⟩
  | 20 => ⟨S240000, .f32⟩
  | 21 => ⟨S240000, .i32⟩
  | 22 => ⟨S_, .f32⟩
  | 23 => ⟨S240000, .f32⟩
  | 24 => ⟨S240000, .i1⟩
  | 25 => ⟨S_, .f32⟩
  | 26 => ⟨S240000, .f32⟩
  | 27 => ⟨S240000, .i1⟩
  | 28 => ⟨S6x200x200, .i1⟩
  | 29 => ⟨S6x200x200, .i1⟩
  | 30 => ⟨S240000x1, .i1⟩
  | 31 => ⟨S_, .i32⟩
  | 32 => ⟨S240000, .i32⟩
  | 33 => ⟨S240000, .i1⟩
  | 34 => ⟨S_, .i32⟩
  | 35 => ⟨S240000, .i32⟩
  | 36 => ⟨S240000, .i32⟩
  | 37 => ⟨S240000, .i32⟩
  | 38 => ⟨S240000x1, .i32⟩
  | 39 => ⟨S240000x7, .f32⟩
  | 40 => ⟨S_, .f32⟩
  | 41 => ⟨S_, .f32⟩
  | 42 => ⟨S240000x7, .i1⟩
  | 43 => ⟨S240000x7, .f32⟩
  | 44 => ⟨S240000x7, .f32⟩
  | 45 => ⟨S6x200x200x7, .f32⟩
  | 46 => ⟨S_, .i32⟩
  | 47 => ⟨S240000, .i32⟩
  | 48 => ⟨S240000, .i1⟩
  | 49 => ⟨S_, .i32⟩
  | 50 => ⟨S240000, .i32⟩
  | 51 => ⟨S240000, .i32⟩
  | 52 => ⟨S240000, .i32⟩
  | 53 => ⟨S240000x1, .i32⟩
  | 54 => ⟨S240000, .i32⟩
  | 55 => ⟨S_, .i32⟩
  | 56 => ⟨S_, .i32⟩
  | 57 => ⟨S240000, .i32⟩
  | 58 => ⟨S240000, .i32⟩
  | 59 => ⟨S6x200x200, .i32⟩
  | 60 => ⟨S6x200x200x1, .i32⟩
  | 61 => ⟨S1x1x1x10, .i32⟩
  | 62 => ⟨S6x200x200x10, .i32⟩
  | 63 => ⟨S6x200x200x10, .i32⟩
  | 64 => ⟨S6x200x200x10, .i1⟩
  | 65 => ⟨S6x200x200x10, .f32⟩
  | 66 => ⟨S6x10x200x200, .f32⟩
  | 67 => ⟨S6x1x200x200, .i1⟩
  | 68 => ⟨S6x1x200x200, .f32⟩
  | 69 => ⟨S6x10x200x200, .f32⟩
  | 70 => ⟨S6x10x200x200, .f32⟩
  | 71 => ⟨S6x10x200x200, .f32⟩
  | 72 => ⟨S6x10x200x200, .f32⟩
  | 73 => ⟨S_, .f32⟩
  | 74 => ⟨S6x10x200x200, .f32⟩
  | 75 => ⟨S6x10x200x200, .f32⟩
  | 76 => ⟨S_, .f32⟩
  | 77 => ⟨S6x10x200x200, .f32⟩
  | 78 => ⟨S6x10x200x200, .f32⟩
  | 79 => ⟨S_, .f32⟩
  | 80 => ⟨S6x10x200x200, .f32⟩
  | 81 => ⟨S6x10x200x200, .f32⟩
  | 82 => ⟨S6x10x200x200, .f32⟩
  | 83 => ⟨S6x10x200x200, .f32⟩
  | 84 => ⟨S6x10x200x200, .f32⟩
  | 85 => ⟨S6x10x200x200, .f32⟩
  | 86 => ⟨S6x10x200x200, .f32⟩
  | 87 => ⟨S6x10x200x200, .f32⟩
  | 88 => ⟨S6x10x200x200, .f32⟩
  | 89 => ⟨S_, .f32⟩
  | 90 => ⟨S6x10x200x200, .f32⟩
  | 91 => ⟨S6x10x200x200, .i1⟩
  | 92 => ⟨S_, .f32⟩
  | 93 => ⟨S6x10x200x200, .f32⟩
  | 94 => ⟨S6x10x200x200, .f32⟩
  | 95 => ⟨S6x10x200x200, .f32⟩
  | 96 => ⟨S_, .f32⟩
  | 97 => ⟨S6x10x200x200, .f32⟩
  | 98 => ⟨S6x10x200x200, .i1⟩
  | 99 => ⟨S_, .f32⟩
  | 100 => ⟨S_, .f32⟩
  | 101 => ⟨S6x10x200x200, .f32⟩
  | 102 => ⟨S6x10x200x200, .f32⟩
  | 103 => ⟨S6x10x200x200, .f32⟩
  | 104 => ⟨S_, .f32⟩
  | 105 => ⟨S6x10x200x200, .f32⟩
  | 106 => ⟨S6x10x200x200, .f32⟩
  | 107 => ⟨S_, .f32⟩
  | 108 => ⟨S6x10x200x200, .f32⟩
  | 109 => ⟨S6x10x200x200, .f32⟩
  | 110 => ⟨S6x10x200x200, .f32⟩
  | 111 => ⟨S6x10x200x200, .f32⟩
  | 112 => ⟨S6x10x200x200, .f32⟩
  | 113 => ⟨S6x200x200, .i1⟩
  | 114 => ⟨S6x1x200x200, .i1⟩
  | 115 => ⟨S6x1x200x200, .f32⟩
  | 116 => ⟨S6x10x200x200, .f32⟩
  | 117 => ⟨S6x10x200x200, .f32⟩
  | 118 => ⟨S_, .f32⟩
  | 119 => ⟨S_, .f32⟩
  | 120 => ⟨S6x1x200x200, .i32⟩
  | 121 => ⟨S_, .i32⟩
  | 122 => ⟨S_, .i32⟩
  | 123 => ⟨S_, .f32⟩
  | 124 => ⟨S_, .f32⟩
  | 125 => ⟨S_, .f32⟩
  | 126 => ⟨S_, .f32⟩
  | 127 => ⟨S_, .f32⟩
  | _ => ⟨S6x200x200x7, .f32⟩

abbrev hbmTy0_2 (i : Nat) : BufTy := match i % 128 with
  | 0 => ⟨S6x200x200x7, .f32⟩
  | 1 => ⟨S6x200x200x7, .f32⟩
  | 2 => ⟨S_, .f32⟩
  | 3 => ⟨S6x200x200x7, .f32⟩
  | 4 => ⟨S6x200x200x7, .i1⟩
  | 5 => ⟨S_, .f32⟩
  | 6 => ⟨S6x200x200x7, .f32⟩
  | 7 => ⟨S6x200x200x7, .f32⟩
  | 8 => ⟨S6x200x200x7, .f32⟩
  | 9 => ⟨S6x200x200x7, .f32⟩
  | 10 => ⟨S_, .f32⟩
  | 11 => ⟨S6x200x200x7, .f32⟩
  | 12 => ⟨S6x200x200x7, .f32⟩
  | 13 => ⟨S6x200x200x7, .f32⟩
  | 14 => ⟨S6x200x200x1, .i1⟩
  | 15 => ⟨S6x200x200x1, .f32⟩
  | 16 => ⟨S6x200x200, .i32⟩
  | 17 => ⟨S_, .i32⟩
  | 18 => ⟨S_, .i32⟩
  | 19 => ⟨S_, .i32⟩
  | 20 => ⟨S_, .i1⟩
  | 21 => ⟨S6x200x200x7, .f32⟩
  | 22 => ⟨S6x200x200x7, .f32⟩
  | 23 => ⟨S_, .f32⟩
  | 24 => ⟨S_, .f32⟩
  | 25 => ⟨S_, .i32⟩
  | 26 => ⟨S_, .i32⟩
  | 27 => ⟨S_, .i32⟩
  | 28 => ⟨S_, .i32⟩
  | 29 => ⟨S_, .f32⟩
  | 30 => ⟨S_, .f32⟩
  | 31 => ⟨S_, .f32⟩
  | 32 => ⟨S_, .f32⟩
  | 33 => ⟨S6x200x200, .f32⟩
  | 34 => ⟨S6x200x200, .i1⟩
  | 35 => ⟨S_, .f32⟩
  | 36 => ⟨S6x200x200, .f32⟩
  | 37 => ⟨S6x200x200, .f32⟩
  | 38 => ⟨S6x200x200, .f32⟩
  | 39 => ⟨S6x200x200, .f32⟩
  | 40 => ⟨S6x200x200, .f32⟩
  | 41 => ⟨S6x200x200, .f32⟩
  | 42 => ⟨S6x200x200, .f32⟩
  | 43 => ⟨S6x200x200, .f32⟩
  | 44 => ⟨S6x200x200, .f32⟩
  | 45 => ⟨S6x200x200, .i32⟩
  | 46 => ⟨S_, .i32⟩
  | 47 => ⟨S_, .i32⟩
  | 48 => ⟨S_, .i32⟩
  | 49 => ⟨S_, .i1⟩
  | 50 => ⟨S6x200x200, .f32⟩
  | 51 => ⟨S6x200x200, .f32⟩
  | 52 => ⟨S_, .f32⟩
  | 53 => ⟨S_, .f32⟩
  | 54 => ⟨S_, .i32⟩
  | 55 => ⟨S_, .i32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S6x200x200x7, .f32⟩

abbrev hbmTy (i : Nat) : BufTy := match i / 128 with
  | 0 => hbmTy0_0 i
  | 1 => hbmTy0_1 i
  | 2 => hbmTy0_2 i
  | _ => ⟨S6x200x200x7, .f32⟩

abbrev bufTy : (tb : Table) → Fin (tcTables nBuf tb) → BufTy
  | .hbm, ⟨i, _⟩ => hbmTy i
  | _, _ => ⟨S6x200x200x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_c : Ref sig .tc := ⟨.hbm, 101, rfl⟩
abbrev main_call0_v0 : Ref sig .tc := ⟨.hbm, 102, rfl⟩
abbrev main_call0_v1 : Ref sig .tc := ⟨.hbm, 103, rfl⟩
abbrev main_v88 : Ref sig .tc := ⟨.hbm, 104, rfl⟩
abbrev main_v89 : Ref sig .tc := ⟨.hbm, 105, rfl⟩
abbrev main_c_7 : Ref sig .tc := ⟨.hbm, 106, rfl⟩
abbrev main_call1_v0 : Ref sig .tc := ⟨.hbm, 107, rfl⟩
abbrev main_call1_v1 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_8 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_9 : Ref sig .tc := ⟨.hbm, 143, rfl⟩
abbrev main_v123 : Ref sig .tc := ⟨.hbm, 144, rfl⟩
abbrev main_call2_v0 : Ref sig .tc := ⟨.hbm, 145, rfl⟩
abbrev main_call2_cst : Ref sig .tc := ⟨.hbm, 146, rfl⟩
abbrev main_call2_c : Ref sig .tc := ⟨.hbm, 147, rfl⟩
abbrev main_call2_v1_0 : Ref sig .tc := ⟨.hbm, 148, rfl⟩
abbrev main_v124 : Ref sig .tc := ⟨.hbm, 149, rfl⟩
abbrev main_cst_10 : Ref sig .tc := ⟨.hbm, 150, rfl⟩
abbrev main_v125 : Ref sig .tc := ⟨.hbm, 151, rfl⟩
abbrev main_v126 : Ref sig .tc := ⟨.hbm, 152, rfl⟩
abbrev main_cst_11 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_c_12 : Ref sig .tc := ⟨.hbm, 159, rfl⟩
abbrev main_v132 : Ref sig .tc := ⟨.hbm, 160, rfl⟩
abbrev main_v133 : Ref sig .tc := ⟨.hbm, 161, rfl⟩
abbrev main_c_13 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_14 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v139 : Ref sig .tc := ⟨.hbm, 172, rfl⟩
abbrev main_v140 : Ref sig .tc := ⟨.hbm, 173, rfl⟩
abbrev main_c_15 : Ref sig .tc := ⟨.hbm, 174, rfl⟩
abbrev main_v141 : Ref sig .tc := ⟨.hbm, 175, rfl⟩
abbrev main_v142 : Ref sig .tc := ⟨.hbm, 176, rfl⟩
abbrev main_c_16 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_c_17 : Ref sig .tc := ⟨.hbm, 183, rfl⟩
abbrev main_call4_v0 : Ref sig .tc := ⟨.hbm, 184, rfl⟩
abbrev main_call4_v1 : Ref sig .tc := ⟨.hbm, 185, rfl⟩
abbrev main_v148 : Ref sig .tc := ⟨.hbm, 186, rfl⟩
abbrev main_v149 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_call5_v3 : Ref sig .tc := ⟨.hbm, 191, rfl⟩
abbrev main_call5_v4 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_18 : Ref sig .tc := ⟨.hbm, 201, rfl⟩
abbrev main_v158 : Ref sig .tc := ⟨.hbm, 202, rfl⟩
abbrev main_v159 : Ref sig .tc := ⟨.hbm, 203, rfl⟩
abbrev main_cst_19 : Ref sig .tc := ⟨.hbm, 204, rfl⟩
abbrev main_v160 : Ref sig .tc := ⟨.hbm, 205, rfl⟩
abbrev main_v161 : Ref sig .tc := ⟨.hbm, 206, rfl⟩
abbrev main_cst_20 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_21 : Ref sig .tc := ⟨.hbm, 217, rfl⟩
abbrev main_v171 : Ref sig .tc := ⟨.hbm, 218, rfl⟩
abbrev main_v172 : Ref sig .tc := ⟨.hbm, 219, rfl⟩
abbrev main_cst_22 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_23 : Ref sig .tc := ⟨.hbm, 224, rfl⟩
abbrev main_v176 : Ref sig .tc := ⟨.hbm, 225, rfl⟩
abbrev main_v177 : Ref sig .tc := ⟨.hbm, 226, rfl⟩
abbrev main_cst_24 : Ref sig .tc := ⟨.hbm, 227, rfl⟩
abbrev main_cst_25 : Ref sig .tc := ⟨.hbm, 228, rfl⟩
abbrev main_call7_v0 : Ref sig .tc := ⟨.hbm, 229, rfl⟩
abbrev main_call7_v1 : Ref sig .tc := ⟨.hbm, 230, rfl⟩
abbrev main_v178 : Ref sig .tc := ⟨.hbm, 231, rfl⟩
abbrev main_cst_26 : Ref sig .tc := ⟨.hbm, 232, rfl⟩
abbrev main_v179 : Ref sig .tc := ⟨.hbm, 233, rfl⟩
abbrev main_v180 : Ref sig .tc := ⟨.hbm, 234, rfl⟩
abbrev main_cst_27 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_28 : Ref sig .tc := ⟨.hbm, 246, rfl⟩
abbrev main_v191 : Ref sig .tc := ⟨.hbm, 247, rfl⟩
abbrev main_v192 : Ref sig .tc := ⟨.hbm, 248, rfl⟩
abbrev main_c_29 : Ref sig .tc := ⟨.hbm, 249, rfl⟩
abbrev main_v193 : Ref sig .tc := ⟨.hbm, 250, rfl⟩
abbrev main_v194 : Ref sig .tc := ⟨.hbm, 251, rfl⟩
abbrev main_cst_30 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_31 : Ref sig .tc := ⟨.hbm, 258, rfl⟩
abbrev main_v200 : Ref sig .tc := ⟨.hbm, 259, rfl⟩
abbrev main_v201 : Ref sig .tc := ⟨.hbm, 260, rfl⟩
abbrev main_cst_32 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_cst_33 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_c_34 : Ref sig .tc := ⟨.hbm, 273, rfl⟩
abbrev main_v212 : Ref sig .tc := ⟨.hbm, 274, rfl⟩
abbrev main_c_35 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_36 : Ref sig .tc := ⟨.hbm, 279, rfl⟩
abbrev main_v216 : Ref sig .tc := ⟨.hbm, 280, rfl⟩
abbrev main_c_37 : Ref sig .tc := ⟨.hbm, 281, rfl⟩
abbrev main_v217 : Ref sig .tc := ⟨.hbm, 282, rfl⟩
abbrev main_c_38 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_cst_39 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_cst_40 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_c_41 : Ref sig .tc := ⟨.hbm, 302, rfl⟩
abbrev main_v234 : Ref sig .tc := ⟨.hbm, 303, rfl⟩
abbrev main_c_42 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_43 : Ref sig .tc := ⟨.hbm, 308, rfl⟩
abbrev main_v238 : Ref sig .tc := ⟨.hbm, 309, rfl⟩
abbrev main_c_44 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_cst_45 : Ref sig .tc := ⟨.hbm, 314, rfl⟩
abbrev main_v242 : Ref sig .tc := ⟨.hbm, 315, rfl⟩
abbrev main_cst_46 : Ref sig .tc := ⟨.hbm, 316, rfl⟩
abbrev main_v243 : Ref sig .tc := ⟨.hbm, 317, rfl⟩
abbrev main_cst_47 : Ref sig .tc := ⟨.hbm, 318, rfl⟩
abbrev main_v244 : Ref sig .tc := ⟨.hbm, 319, rfl⟩
abbrev main_v245 : Ref sig .tc := ⟨.hbm, 320, rfl⟩
abbrev main_cst_48 : Ref sig .tc := ⟨.hbm, 321, rfl⟩
abbrev main_v246 : Ref sig .tc := ⟨.hbm, 322, rfl⟩
abbrev main_v247 : Ref sig .tc := ⟨.hbm, 323, rfl⟩

abbrev nD : Nat := 1
abbrev τ : Topo := Topo.v7x

variable {F : FTy → Type} [FloatOps F]
-- ==== Proof.Ideal.Points.lean ====
/- What the runs of the kernel's body share: the two conditions of the body in closed form over the grid's points, the
   points where the output is left alone, and the names of the buffers the body is called with. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 30 = 29 :=
  (fun t => by
    have ht : t.val < 30 := Nat.lt_of_lt_of_eq t.isLt N_0
    have e0 : (grid0.coords t 0).val = t.val / 1 % 30 := Pipeline.Grid.coords_val t 0 (by decide) rfl
    simp only [cond0_1, k0_cond2, e0]
    word_cmp
   : ∀ t : Fin grid0.N, cond0_1 (grid0.coords t) ↔ t.val % 30 = 29)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .smem S4 .f32 := (Memref.whole cc0_stg5_0 : Memref sig .tc .smem S4 .f32).view
/-- Each window's current staging memref at point `t`, spelled as the pipeline passes it (`bodyAt0`), and its wholeness. -/
abbrev ms0_0 (t : Fin cfg0.N) : Memref sig .tc .vmem S7x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10x64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S50x7 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S50 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S4 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .smem S5 .f32 := Memref.whole cc0_scratch0
/-- The scratch `arg7` the kernel carries between points, as a view: what it holds is stated through it. -/
abbrev VS0_0 : View sig .tc .smem S5 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.Ideal.RunA.lean ====
/- One run of the kernel's body at the first grid point: the sums are set to zero before the point's partial sums are added. -/
module

public import proofs.«01_k».proof.Proof.Ideal.Points

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3444000 in
/-- The body's run at the first point (sums zeroed, output left alone): the pieces its stores write, found by running it, and the proof that it ends with them written and every other buffer as it was. -/
noncomputable def kernelRun0_A (c : Dev nD) (i : grid0.Coords) (arg1 : Memref sig .tc .vmem S7x64x128 .f32) (harg1 : arg1.IsWhole) (arg2 : Memref sig .tc .vmem S10x64x128 .f32) (harg2 : arg2.IsWhole) (arg3 : Memref sig .tc .vmem S64x128 .f32) (harg3 : arg3.IsWhole) (arg4 : Memref sig .tc .smem S50x7 .f32) (harg4 : arg4.IsWhole) (arg5 : Memref sig .tc .smem S50 .f32) (harg5 : arg5.IsWhole) (arg6 : Memref sig .tc .smem S4 .f32) (harg6 : arg6.IsWhole) (arg7 : Memref sig .tc .smem S5 .f32) (harg7 : arg7.IsWhole) (hc0 : cond0_0 i) (hc1 : ¬cond0_1 i)
    (x0 : Vec F S7x64x128 .f32) (x1 : Vec F S10x64x128 .f32) (x2 : Vec F S64x128 .f32) (x3 : Vec F S50x7 .f32) (x4 : Vec F S50 .f32) :
    Σ' (L5 : List (View.Piece (Elt F) S4 .f32)), { LS0 : List (View.Piece (Elt F) S5 .f32) //
      ∀ (xi5 : Vec F S4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_body i arg1 harg1 arg2 harg2 arg3 harg3 arg4 harg4 arg5 harg5 arg6 harg6 arg7 harg7) K } := by
  refine ⟨[], ?_, fun xi5 E K => ?run⟩
  case run =>
    simp only [cc0__loss_body_eq_skeleton]; unfold cc0__loss_body_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Body

end
-- ==== Proof.Ideal.RunB.lean ====
/- One run of the kernel's body at a point strictly between the first and the last: only the partial sums are added. -/
module

public import proofs.«01_k».proof.Proof.Ideal.RunA

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3384000 in
/-- The body's run at the middle point (output left alone): the pieces its stores write, found by running it, and the proof that it ends with them written and every other buffer as it was. -/
noncomputable def kernelRun0_B (c : Dev nD) (i : grid0.Coords) (arg1 : Memref sig .tc .vmem S7x64x128 .f32) (harg1 : arg1.IsWhole) (arg2 : Memref sig .tc .vmem S10x64x128 .f32) (harg2 : arg2.IsWhole) (arg3 : Memref sig .tc .vmem S64x128 .f32) (harg3 : arg3.IsWhole) (arg4 : Memref sig .tc .smem S50x7 .f32) (harg4 : arg4.IsWhole) (arg5 : Memref sig .tc .smem S50 .f32) (harg5 : arg5.IsWhole) (arg6 : Memref sig .tc .smem S4 .f32) (harg6 : arg6.IsWhole) (arg7 : Memref sig .tc .smem S5 .f32) (harg7 : arg7.IsWhole) (hc0 : ¬cond0_0 i) (hc1 : ¬cond0_1 i)
    (x0 : Vec F S7x64x128 .f32) (x1 : Vec F S10x64x128 .f32) (x2 : Vec F S64x128 .f32) (x3 : Vec F S50x7 .f32) (x4 : Vec F S50 .f32) (xs0 : Vec F S5 .f32) :
    Σ' (L5 : List (View.Piece (Elt F) S4 .f32)), { LS0 : List (View.Piece (Elt F) S5 .f32) //
      ∀ (xi5 : Vec F S4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_body i arg1 harg1 arg2 harg2 arg3 harg3 arg4 harg4 arg5 harg5 arg6 harg6 arg7 harg7) K } := by
  refine ⟨[], ?_, fun xi5 E K => ?run⟩
  case run =>
    simp only [cc0__loss_body_eq_skeleton]; unfold cc0__loss_body_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Body

end
-- ==== Proof.Ideal.RunC.lean ====
/- One run of the kernel's body at the last point: the partial sums are added and the four losses are written out. -/
module

public import proofs.«01_k».proof.Proof.Ideal.RunB

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3436000 in
/-- The body's run at the last point (losses written): the pieces its stores write, found by running it, and the proof that it ends with them written and every other buffer as it was. -/
noncomputable def kernelRun0_C (c : Dev nD) (i : grid0.Coords) (arg1 : Memref sig .tc .vmem S7x64x128 .f32) (harg1 : arg1.IsWhole) (arg2 : Memref sig .tc .vmem S10x64x128 .f32) (harg2 : arg2.IsWhole) (arg3 : Memref sig .tc .vmem S64x128 .f32) (harg3 : arg3.IsWhole) (arg4 : Memref sig .tc .smem S50x7 .f32) (harg4 : arg4.IsWhole) (arg5 : Memref sig .tc .smem S50 .f32) (harg5 : arg5.IsWhole) (arg6 : Memref sig .tc .smem S4 .f32) (harg6 : arg6.IsWhole) (arg7 : Memref sig .tc .smem S5 .f32) (harg7 : arg7.IsWhole) (hc0 : ¬cond0_0 i) (hc1 : cond0_1 i)
    (x0 : Vec F S7x64x128 .f32) (x1 : Vec F S10x64x128 .f32) (x2 : Vec F S64x128 .f32) (x3 : Vec F S50x7 .f32) (x4 : Vec F S50 .f32) (xs0 : Vec F S5 .f32) :
    Σ' (L5 : List (View.Piece (Elt F) S4 .f32)), { LS0 : List (View.Piece (Elt F) S5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__loss_body i arg1 harg1 arg2 harg2 arg3 harg3 arg4 harg4 arg5 harg5 arg6 harg6 arg7 harg7) K } := by
  refine ⟨?_, ?_, fun E K => ?run⟩
  case run =>
    simp only [cc0__loss_body_eq_skeleton]; unfold cc0__loss_body_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Body

end
-- ==== Proof.Ideal.Lane.lean ====
/- What the kernel's body computes, written once for a single anchor (one lane of the block) and once for the whole
   block: the overlap of the anchor's box with a ground-truth box, the best overlap and what comes with it, the three
   losses of the anchor, and the five sums a block adds to the accumulators. Everything is generic in the number format. -/
module

public import proofs.«01_k».proof.Proof.Ideal.Points

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- The number a 32-bit pattern stands for. -/
abbrev num (b : BitVec 32) : F .f32 := FloatOps.ofBits .f32 b

/-- The lower end of the side of length `w` centred at `x`, as the vector unit computes it. -/
def lo (x w : F .f32) : F .f32 := FloatOps.subf x (FloatOps.mulf w (num 0x3F000000#32))
/-- Its upper end. -/
def hi (x w : F .f32) : F .f32 := FloatOps.addf x (FloatOps.mulf w (num 0x3F000000#32))
/-- The lower end of the side of length `w` centred at `x`, as the scalar unit computes it. -/
def slo (x w : F .f32) : F .f32 := Scalar.subf x (Scalar.mulf w (num 0x3F000000#32))
/-- Its upper end. -/
def shi (x w : F .f32) : F .f32 := Scalar.addf x (Scalar.mulf w (num 0x3F000000#32))

/-- The area of a predicted box. -/
def area (B : ℕ → F .f32) : F .f32 :=
  FloatOps.mulf (FloatOps.subf (hi (B 0) (B 3)) (lo (B 0) (B 3))) (FloatOps.subf (hi (B 1) (B 4)) (lo (B 1) (B 4)))
/-- The area of a ground-truth box. -/
def sarea (g : ℕ → F .f32) : F .f32 :=
  Scalar.mulf (Scalar.subf (shi (g 0) (g 3)) (slo (g 0) (g 3))) (Scalar.subf (shi (g 1) (g 4)) (slo (g 1) (g 4)))
/-- The common length of two sides, zero if they do not meet. -/
def common (x w gx gw : F .f32) : F .f32 :=
  FloatOps.maximumf (FloatOps.subf (FloatOps.minimumf (hi x w) (shi gx gw)) (FloatOps.maximumf (lo x w) (slo gx gw)))
    (num 0x00000000#32)
/-- The area two boxes share. -/
def inter (B g : ℕ → F .f32) : F .f32 :=
  FloatOps.mulf (common (B 0) (B 3) (g 0) (g 3)) (common (B 1) (B 4) (g 1) (g 4))
/-- The overlap: shared area over the area of the union. -/
def iou (B g : ℕ → F .f32) : F .f32 :=
  FloatOps.divf (inter B g)
    (FloatOps.addf (FloatOps.subf (FloatOps.addf (area B) (sarea g)) (inter B g)) (num 0x358637BD#32))

/-- The best overlap with the first `n` ground-truth boxes. -/
def best (B : ℕ → F .f32) (g : ℕ → ℕ → F .f32) (n : ℕ) : F .f32 :=
  Nat.rec (num 0xFF800000#32)
    (fun j b => Scalar.select (FloatOps.cmpf .ogt (iou B (g j)) b) (iou B (g j)) b) n
/-- Whether box `j` beats the boxes before it. -/
def beats (B : ℕ → F .f32) (g : ℕ → ℕ → F .f32) (j : ℕ) : BitVec 1 :=
  FloatOps.cmpf .ogt (iou B (g j)) (best B g j)
/-- The entry of the table `v` at the last of the first `n` boxes that beat the boxes before it, zero if none did. -/
def pick (B : ℕ → F .f32) (g : ℕ → ℕ → F .f32) (v : ℕ → F .f32) (n : ℕ) : F .f32 :=
  Nat.rec (num 0x00000000#32) (fun j a => Scalar.select (beats B g j) (v j) a) n

/-- Whether the anchor is matched to a box; `q` says whether it is an anchor at all. -/
def pos (q : BitVec 1) (B : ℕ → F .f32) (g : ℕ → ℕ → F .f32) : BitVec 1 :=
  IntOp.andi (FloatOps.cmpf .oge (best B g 50) (num 0x3F19999A#32)) q
/-- Whether the anchor counts as background. -/
def neg (q : BitVec 1) (B : ℕ → F .f32) (g : ℕ → ℕ → F .f32) : BitVec 1 :=
  IntOp.andi (FloatOps.cmpf .ole (best B g 50) (num 0x3ECCCCCD#32)) q
/-- Whether the anchor takes part in the losses. -/
def valid (q : BitVec 1) (B : ℕ → F .f32) (g : ℕ → ℕ → F .f32) : BitVec 1 :=
  IntOp.ori (pos q B g) (neg q B g)

/-- `exp (-|s|)`. -/
def expNeg (s : F .f32) : F .f32 := FloatOps.exp (FloatOps.subf (num 0x00000000#32) (FloatOps.absf s))
/-- `1 / (1 + exp (-|s|))`. -/
def recip (s : F .f32) : F .f32 :=
  FloatOps.divf (num 0x3F800000#32) (FloatOps.addf (num 0x3F800000#32) (expNeg s))
/-- The focal loss of a score `s` whose target is the bit `t`. -/
def focal (t : BitVec 1) (s : F .f32) : F .f32 :=
  FloatOps.mulf
    (FloatOps.mulf (Scalar.select t (num 0x3E800000#32) (num 0x3F400000#32))
      (FloatOps.mulf
        (Scalar.select (IntOp.xori t (FloatOps.cmpf .oge s (num 0x00000000#32))) (recip s) (FloatOps.mulf (expNeg s) (recip s)))
        (Scalar.select (IntOp.xori t (FloatOps.cmpf .oge s (num 0x00000000#32))) (recip s) (FloatOps.mulf (expNeg s) (recip s)))))
    (FloatOps.addf
      (FloatOps.subf (FloatOps.maximumf s (num 0x00000000#32)) (Scalar.select t s (num 0x00000000#32)))
      (FloatOps.log1p (expNeg s)))
/-- The pattern of the number `c`, for the ten classes. -/
def clsBits (c : ℕ) : BitVec 32 :=
  [0x00000000#32, 0x3F800000#32, 0x40000000#32, 0x40400000#32, 0x40800000#32, 0x40A00000#32, 0x40C00000#32,
    0x40E00000#32, 0x41000000#32, 0x41100000#32].getD c 0#32
/-- The focal losses of the first `n` classes, added up; `p` says whether the anchor is matched, `l` its label. -/
def focalSum (p : BitVec 1) (l : F .f32) (S : ℕ → F .f32) (n : ℕ) : F .f32 :=
  Nat.rec (num 0x00000000#32)
    (fun c a => FloatOps.addf a (focal (IntOp.andi p (FloatOps.cmpf .oeq l (num (clsBits c)))) (S c))) n
/-- The smooth distance of one box entry: half the square below one, linear from there on. -/
def smooth (d : F .f32) : F .f32 :=
  Scalar.select (FloatOps.cmpf .olt (FloatOps.absf d) (num 0x3F800000#32))
    (FloatOps.mulf (FloatOps.mulf (num 0x3F000000#32) d) d) (FloatOps.subf (FloatOps.absf d) (num 0x3F000000#32))
/-- The smooth distances of the first `n` box entries, added up. -/
def smoothSum (B : ℕ → F .f32) (g : ℕ → ℕ → F .f32) (n : ℕ) : F .f32 :=
  Nat.rec (num 0x00000000#32)
    (fun k a => FloatOps.addf a (smooth (FloatOps.subf (B k) (pick B g (fun j => g j k) 50)))) n
/-- A bit as a number. -/
def ofBit (p : BitVec 1) : F .f32 := Scalar.select p (num 0x3F800000#32) (num 0x00000000#32)
/-- The objectness loss of the logit `o` whose target is the bit `p`. -/
def bce (p : BitVec 1) (o : F .f32) : F .f32 :=
  FloatOps.addf (FloatOps.subf (FloatOps.maximumf o (num 0x00000000#32)) (FloatOps.mulf o (ofBit p)))
    (FloatOps.log1p (expNeg o))

/-- What an anchor adds to each of the five sums: the focal losses, the smooth distances, the objectness loss, and the
    two counts. -/
def lane (q : BitVec 1) (B S : ℕ → F .f32) (o : F .f32) (g : ℕ → ℕ → F .f32) (lb : ℕ → F .f32) (k : ℕ) : F .f32 :=
  match k with
  | 0 => Scalar.select (valid q B g) (focalSum (pos q B g) (pick B g lb 50) S 10) (num 0x00000000#32)
  | 1 => Scalar.select (pos q B g) (smoothSum B g 7) (num 0x00000000#32)
  | 2 => Scalar.select (valid q B g) (bce (pos q B g) o) (num 0x00000000#32)
  | 3 => ofBit (pos q B g)
  | _ => ofBit (valid q B g)

/-- The sum over a block, as the body takes it. -/
def blockSum (v : FVec F S64x128 .f32) : F .f32 :=
  extractAt ![0, 0, 0]
    (shapeCast S1x1x1
      (multiReduction .add [1, 2] S1 (shapeCast S1x64x128 v shapeCasts_S64x128_S1x64x128) 0x00000000#32
        reduces_S1x64x128_S1 (.inl rfl) rfl) shapeCasts_S1_S1x1x1) inpos_S1x1x1_p0_0_0

/-- Whether the lane `p` of block `w` is an anchor at all: the last block reaches past the array's end. -/
def inside (w : BitVec 32) (p : S64x128.Idx) : BitVec 1 :=
  IntOp.cmpi .slt
    (IntOp.addi (Scalar.muli w 64#32) (iota .tc S64x128 32 [0] iota_S64x128_d0_w32 p)) 1875#32

/-- What a block adds to the five sums, from the rows of its arrays as the body loads them. -/
def part (w : BitVec 32) (B S : ℕ → Vec F S1x64x128 .f32) (o : Vec F S64x128 .f32) (g : ℕ → ℕ → F .f32)
    (lb : ℕ → F .f32) (k : ℕ) : F .f32 :=
  blockSum fun p =>
    lane (inside w p) (fun k => shapeCast S64x128 (B k) shapeCasts_S1x64x128_S64x128 p)
      (fun k => shapeCast S64x128 (S k) shapeCasts_S1x64x128_S64x128 p)
      (shapeCast S64x128 o shapeCasts_S64x128_S64x128 p) g lb k

/-- The four results from the five sums. -/
def clsOf (a4 a0 : F .f32) : F .f32 := Scalar.divf a0 (Scalar.addf a4 (num 0x358637BD#32))
/-- The mean of the smooth distances, zero without a matched anchor. -/
def regOf (a3 a1 : F .f32) : F .f32 :=
  Scalar.select (Scalar.cmpf .ogt a3 (num 0x00000000#32))
    (Scalar.divf a1 (Scalar.maximumf (Scalar.mulf a3 (num 0x40E00000#32)) (num 0x3F800000#32))) (num 0x00000000#32)
/-- The mean objectness loss, zero without an anchor that takes part. -/
def objOf (a4 a2 : F .f32) : F .f32 :=
  Scalar.select (Scalar.cmpf .ogt a4 (num 0x00000000#32))
    (Scalar.divf a2 (Scalar.maximumf a4 (num 0x3F800000#32))) (num 0x00000000#32)
/-- The weighted total. -/
def totalOf (c r b : F .f32) : F .f32 :=
  Scalar.addf (Scalar.addf (Scalar.mulf (num 0x3F800000#32) c) (Scalar.mulf (num 0x40000000#32) r))
    (Scalar.mulf (num 0x3F800000#32) b)
/-- The four results in the order the body stores them. -/
def outOf (a : ℕ → F .f32) (k : ℕ) : F .f32 :=
  match k with
  | 0 => totalOf (clsOf (a 4) (a 0)) (regOf (a 3) (a 1)) (objOf (a 4) (a 2))
  | 1 => clsOf (a 4) (a 0)
  | 2 => regOf (a 3) (a 1)
  | _ => objOf (a 4) (a 2)

/-! ## The loads, as functions of a number -/

theorem inbB (k : ℕ) : ∀ a, (![k % 7, 0, 0] : Fin 3 → ℕ) a + S1x64x128.size a ≤ S7x64x128.size a := by
  have := Nat.mod_lt k (show 0 < 7 by decide)
  intro a; fin_cases a
  · show k % 7 + 1 ≤ 7; omega
  · exact le_refl 64
  · exact le_refl 128
theorem inbS (k : ℕ) : ∀ a, (![k % 10, 0, 0] : Fin 3 → ℕ) a + S1x64x128.size a ≤ S10x64x128.size a := by
  have := Nat.mod_lt k (show 0 < 10 by decide)
  intro a; fin_cases a
  · show k % 10 + 1 ≤ 10; omega
  · exact le_refl 64
  · exact le_refl 128
theorem inbG (j k : ℕ) : ∀ a, (![j % 50, k % 7] : Fin 2 → ℕ) a + S1x1.size a ≤ S50x7.size a := by
  have := Nat.mod_lt j (show 0 < 50 by decide)
  have := Nat.mod_lt k (show 0 < 7 by decide)
  intro a; fin_cases a
  · show j % 50 + 1 ≤ 50; omega
  · show k % 7 + 1 ≤ 7; omega
theorem inbL (j : ℕ) : ∀ a, (![j % 50] : Fin 1 → ℕ) a + S1.size a ≤ S50.size a := by
  have := Nat.mod_lt j (show 0 < 50 by decide)
  intro a; fin_cases a
  show j % 50 + 1 ≤ 50; omega
theorem inbA (k : ℕ) : ∀ a, (![k % 5] : Fin 1 → ℕ) a + S1.size a ≤ S5.size a := by
  have := Nat.mod_lt k (show 0 < 5 by decide)
  intro a; fin_cases a
  show k % 5 + 1 ≤ 5; omega

/-- Row `k` of the block of box entries. -/
def rowB (x : Vec F S7x64x128 .f32) (k : ℕ) : Vec F S1x64x128 .f32 := fun y =>
  x ((Rect.unit (s := S7x64x128) ![k % 7, 0, 0] S1x64x128.size (inbB k)).toLoadRect.idx y)
/-- Row `k` of the block of scores. -/
def rowS (x : Vec F S10x64x128 .f32) (k : ℕ) : Vec F S1x64x128 .f32 := fun y =>
  x ((Rect.unit (s := S10x64x128) ![k % 10, 0, 0] S1x64x128.size (inbS k)).toLoadRect.idx y)
/-- The block of objectness logits. -/
def rowO (x : Vec F S64x128 .f32) : Vec F S64x128 .f32 := fun y =>
  x ((Rect.unit (s := S64x128) ![0, 0] S64x128.size inb_S64x128_S64x128_0_0).toLoadRect.idx y)
/-- Entry `k` of ground-truth box `j`. -/
def entG (x : Vec F S50x7 .f32) (j k : ℕ) : F .f32 :=
  x ((Rect.unit (s := S50x7) ![j % 50, k % 7] S1x1.size (inbG j k)).toLoadRect.idx
    (Shape.Idx.first (numel1_S1x1.symm ▸ Nat.zero_lt_one)))
/-- The label of ground-truth box `j`. -/
def entL (x : Vec F S50 .f32) (j : ℕ) : F .f32 :=
  x ((Rect.unit (s := S50) ![j % 50] S1.size (inbL j)).toLoadRect.idx
    (Shape.Idx.first (numel1_S1.symm ▸ Nat.zero_lt_one)))
/-- Accumulator `k`. -/
def entA (x : Vec F S5 .f32) (k : ℕ) : F .f32 :=
  x ((Rect.unit (s := S5) ![k % 5] S1.size (inbA k)).toLoadRect.idx
    (Shape.Idx.first (numel1_S1.symm ▸ Nat.zero_lt_one)))

/-- What block `w` adds to sum `k`. -/
def partOf (w : BitVec 32) (x0 : Vec F S7x64x128 .f32) (x1 : Vec F S10x64x128 .f32) (x2 : Vec F S64x128 .f32)
    (x3 : Vec F S50x7 .f32) (x4 : Vec F S50 .f32) (k : ℕ) : F .f32 :=
  part w (rowB x0) (rowS x1) (rowO x2) (entG x3) (entL x4) k

end Cert.KernelIdeal.Body

end
-- ==== Proof.Ideal.Pieces.lean ====
/- What the body's runs leave in the accumulators and in the output, in the words of `Lane`. -/
module

public import proofs.«01_k».proof.Proof.Ideal.RunC
public import proofs.«01_k».proof.Proof.Ideal.Lane

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- The five accumulators as the body stores them, last first. -/
def accPieces (v : ℕ → F .f32) : List (View.Piece (Elt F) S5 .f32) :=
  [⟨Rect.unit (s := S5) ![4] S1.size inb_S5_S1_4, fun _ => v 4⟩, ⟨Rect.unit (s := S5) ![3] S1.size inb_S5_S1_3, fun _ => v 3⟩,
   ⟨Rect.unit (s := S5) ![2] S1.size inb_S5_S1_2, fun _ => v 2⟩, ⟨Rect.unit (s := S5) ![1] S1.size inb_S5_S1_1, fun _ => v 1⟩,
   ⟨Rect.unit (s := S5) ![0] S1.size inb_S5_S1_0, fun _ => v 0⟩]

/-- The four outputs as the body stores them, last first. -/
def outPieces (v : ℕ → F .f32) : List (View.Piece (Elt F) S4 .f32) :=
  [⟨Rect.unit (s := S4) ![3] S1.size inb_S4_S1_3, fun _ => v 3⟩, ⟨Rect.unit (s := S4) ![2] S1.size inb_S4_S1_2, fun _ => v 2⟩,
   ⟨Rect.unit (s := S4) ![1] S1.size inb_S4_S1_1, fun _ => v 1⟩, ⟨Rect.unit (s := S4) ![0] S1.size inb_S4_S1_0, fun _ => v 0⟩]

/-- The accumulators after one more block. -/
def stepOf (w : BitVec 32) (x0 : Vec F S7x64x128 .f32) (x1 : Vec F S10x64x128 .f32) (x2 : Vec F S64x128 .f32)
    (x3 : Vec F S50x7 .f32) (x4 : Vec F S50 .f32) (a : ℕ → F .f32) (k : ℕ) : F .f32 :=
  Scalar.addf (a k) (partOf w x0 x1 x2 x3 x4 k)

section
variable (c : Dev nD) (i : grid0.Coords) (arg1 : Memref sig .tc .vmem S7x64x128 .f32) (harg1 : arg1.IsWhole)
  (arg2 : Memref sig .tc .vmem S10x64x128 .f32) (harg2 : arg2.IsWhole) (arg3 : Memref sig .tc .vmem S64x128 .f32)
  (harg3 : arg3.IsWhole) (arg4 : Memref sig .tc .smem S50x7 .f32) (harg4 : arg4.IsWhole)
  (arg5 : Memref sig .tc .smem S50 .f32) (harg5 : arg5.IsWhole) (arg6 : Memref sig .tc .smem S4 .f32)
  (harg6 : arg6.IsWhole) (arg7 : Memref sig .tc .smem S5 .f32) (harg7 : arg7.IsWhole)
  (x0 : Vec F S7x64x128 .f32) (x1 : Vec F S10x64x128 .f32) (x2 : Vec F S64x128 .f32) (x3 : Vec F S50x7 .f32)
  (x4 : Vec F S50 .f32) (xs0 : Vec F S5 .f32)

set_option maxHeartbeats 4000000 in
/-- At the first point: the accumulators are cleared, then the block is added. Through the raw contents of the buffers. -/
theorem pieces_A_raw (hc0 : cond0_0 i) (hc1 : ¬cond0_1 i) :
    (kernelRun0_A c i arg1 harg1 arg2 harg2 arg3 harg3 arg4 harg4 arg5 harg5 arg6 harg6 arg7 harg7 hc0 hc1 x0 x1 x2 x3
      x4).2.1
      = accPieces (stepOf (BitVec.ofNat 32 (i 0).val) (arg1.view.read (Elt F) (harg1.unread x0))
            (arg2.view.read (Elt F) (harg2.unread x1)) (arg3.view.read (Elt F) (harg3.unread x2))
            (arg4.view.read (Elt F) (harg4.unread x3)) (arg5.view.read (Elt F) (harg5.unread x4)) (fun _ => num 0x00000000#32)) ++ accPieces (fun _ => num 0x00000000#32) := by
  sl_kernel_rfl

set_option maxHeartbeats 4000000 in
/-- In between: the block is added to the accumulators. Through the raw contents of the buffers. -/
theorem pieces_B_raw (hc0 : ¬cond0_0 i) (hc1 : ¬cond0_1 i) :
    (kernelRun0_B c i arg1 harg1 arg2 harg2 arg3 harg3 arg4 harg4 arg5 harg5 arg6 harg6 arg7 harg7 hc0 hc1 x0 x1 x2 x3
      x4 xs0).2.1
      = accPieces (stepOf (BitVec.ofNat 32 (i 0).val) (arg1.view.read (Elt F) (harg1.unread x0))
            (arg2.view.read (Elt F) (harg2.unread x1)) (arg3.view.read (Elt F) (harg3.unread x2))
            (arg4.view.read (Elt F) (harg4.unread x3)) (arg5.view.read (Elt F) (harg5.unread x4)) (entA (arg7.view.read (Elt F) (harg7.unread xs0)))) := by
  sl_kernel_rfl

set_option maxHeartbeats 4000000 in
/-- At the last point: the block is added to the accumulators. Through the raw contents of the buffers. -/
theorem pieces_C_raw (hc0 : ¬cond0_0 i) (hc1 : cond0_1 i) :
    (kernelRun0_C c i arg1 harg1 arg2 harg2 arg3 harg3 arg4 harg4 arg5 harg5 arg6 harg6 arg7 harg7 hc0 hc1 x0 x1 x2 x3
      x4 xs0).2.1
      = accPieces (stepOf (BitVec.ofNat 32 (i 0).val) (arg1.view.read (Elt F) (harg1.unread x0))
            (arg2.view.read (Elt F) (harg2.unread x1)) (arg3.view.read (Elt F) (harg3.unread x2))
            (arg4.view.read (Elt F) (harg4.unread x3)) (arg5.view.read (Elt F) (harg5.unread x4)) (entA (arg7.view.read (Elt F) (harg7.unread xs0)))) := by
  sl_kernel_rfl

set_option maxHeartbeats 4000000 in
/-- At the last point: the results are computed from the accumulators just stored. Through the raw contents of the buffers. -/
theorem pieces_C_out_raw (hc0 : ¬cond0_0 i) (hc1 : cond0_1 i) :
    (kernelRun0_C c i arg1 harg1 arg2 harg2 arg3 harg3 arg4 harg4 arg5 harg5 arg6 harg6 arg7 harg7 hc0 hc1 x0 x1 x2 x3
      x4 xs0).1
      = outPieces (outOf (stepOf (BitVec.ofNat 32 (i 0).val) (arg1.view.read (Elt F) (harg1.unread x0))
            (arg2.view.read (Elt F) (harg2.unread x1)) (arg3.view.read (Elt F) (harg3.unread x2))
            (arg4.view.read (Elt F) (harg4.unread x3)) (arg5.view.read (Elt F) (harg5.unread x4)) (entA (arg7.view.read (Elt F) (harg7.unread xs0))))) := by
  sl_kernel_rfl

set_option maxHeartbeats 4000000 in
/-- At the first point: the accumulators are cleared, then the block is added. -/
theorem pieces_A (hc0 : cond0_0 i) (hc1 : ¬cond0_1 i) :
    (kernelRun0_A c i arg1 harg1 arg2 harg2 arg3 harg3 arg4 harg4 arg5 harg5 arg6 harg6 arg7 harg7 hc0 hc1 x0 x1 x2 x3
      x4).2.1
      = accPieces (stepOf (BitVec.ofNat 32 (i 0).val) x0 x1 x2 x3 x4 (fun _ => num 0x00000000#32)) ++ accPieces (fun _ => num 0x00000000#32) := by
  rw [pieces_A_raw]; simp only [Memref.IsWhole.read_unread]

set_option maxHeartbeats 4000000 in
/-- In between: the block is added to the accumulators. -/
theorem pieces_B (hc0 : ¬cond0_0 i) (hc1 : ¬cond0_1 i) :
    (kernelRun0_B c i arg1 harg1 arg2 harg2 arg3 harg3 arg4 harg4 arg5 harg5 arg6 harg6 arg7 harg7 hc0 hc1 x0 x1 x2 x3
      x4 xs0).2.1
      = accPieces (stepOf (BitVec.ofNat 32 (i 0).val) x0 x1 x2 x3 x4 (entA xs0)) := by
  rw [pieces_B_raw]; simp only [Memref.IsWhole.read_unread]

set_option maxHeartbeats 4000000 in
/-- At the last point: the block is added to the accumulators. -/
theorem pieces_C (hc0 : ¬cond0_0 i) (hc1 : cond0_1 i) :
    (kernelRun0_C c i arg1 harg1 arg2 harg2 arg3 harg3 arg4 harg4 arg5 harg5 arg6 harg6 arg7 harg7 hc0 hc1 x0 x1 x2 x3
      x4 xs0).2.1
      = accPieces (stepOf (BitVec.ofNat 32 (i 0).val) x0 x1 x2 x3 x4 (entA xs0)) := by
  rw [pieces_C_raw]; simp only [Memref.IsWhole.read_unread]

set_option maxHeartbeats 4000000 in
/-- At the last point: the results are computed from the accumulators just stored. -/
theorem pieces_C_out (hc0 : ¬cond0_0 i) (hc1 : cond0_1 i) :
    (kernelRun0_C c i arg1 harg1 arg2 harg2 arg3 harg3 arg4 harg4 arg5 harg5 arg6 harg6 arg7 harg7 hc0 hc1 x0 x1 x2 x3
      x4 xs0).1
      = outPieces (outOf (stepOf (BitVec.ofNat 32 (i 0).val) x0 x1 x2 x3 x4 (entA xs0))) := by
  rw [pieces_C_out_raw]; simp only [Memref.IsWhole.read_unread]

end

end Cert.KernelIdeal.Body

end
-- ==== Proof.Ideal.Tail.lean ====
/- The part of a block past the array's end adds nothing: what a block adds to the sums is a function of the arrays alone. -/
module

public import proofs.«01_k».proof.Proof.Ideal.Lane
public import Idealize.ShloMosaic.Lib.ValueLayout
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

theorem rowB_lane (x : Vec F S7x64x128 .f32) (k : ℕ) (r : Fin 64) (l : Fin 128) :
    shapeCast S64x128 (rowB x k) shapeCasts_S1x64x128_S64x128 (ix2 r l)
      = x (ix3 (⟨k % 7, Nat.mod_lt k (by decide)⟩ : Fin 7) r l) := by
  refine (ValueIdx.shapeCast_1ab_ab_apply (a := 64) (b := 128) (rowB x k) shapeCasts_S1x64x128_S64x128 r l).trans ?_
  unfold rowB
  congr 1
  funext a
  apply Fin.ext
  fin_cases a
  · show k % 7 + 1 * 0 = k % 7; omega
  · show 0 + 1 * r.val = r.val; omega
  · show 0 + 1 * l.val = l.val; omega

theorem rowS_lane (x : Vec F S10x64x128 .f32) (k : ℕ) (r : Fin 64) (l : Fin 128) :
    shapeCast S64x128 (rowS x k) shapeCasts_S1x64x128_S64x128 (ix2 r l)
      = x (ix3 (⟨k % 10, Nat.mod_lt k (by decide)⟩ : Fin 10) r l) := by
  refine (ValueIdx.shapeCast_1ab_ab_apply (a := 64) (b := 128) (rowS x k) shapeCasts_S1x64x128_S64x128 r l).trans ?_
  unfold rowS
  congr 1
  funext a
  apply Fin.ext
  fin_cases a
  · show k % 10 + 1 * 0 = k % 10; omega
  · show 0 + 1 * r.val = r.val; omega
  · show 0 + 1 * l.val = l.val; omega

theorem rowO_lane (x : Vec F S64x128 .f32) (r : Fin 64) (l : Fin 128) :
    shapeCast S64x128 (rowO x) shapeCasts_S64x128_S64x128 (ix2 r l) = x (ix2 r l) := by
  refine (congrFun (shapeCast_self (rowO x) shapeCasts_S64x128_S64x128) _).trans ?_
  unfold rowO
  congr 1
  funext a
  apply Fin.ext
  fin_cases a
  · show 0 + 1 * r.val = r.val; omega
  · show 0 + 1 * l.val = l.val; omega

/-- The mask of a lane, in numbers. -/
theorem inside_lane (t : Fin 30) (r : Fin 64) (l : Fin 128) :
    inside (BitVec.ofNat 32 t.val) (ix2 r l) = if 64 * t.val + r.val < 1875 then 1#1 else 0#1 := by
  have h : ∀ (t : Fin 30) (r : Fin 64),
      IntOp.cmpi .slt (IntOp.addi (Scalar.muli (BitVec.ofNat 32 t.val) 64#32) (BitVec.ofNat 32 r.val)) 1875#32
        = if 64 * t.val + r.val < 1875 then 1#1 else 0#1 := by decide +kernel
  refine Eq.trans ?_ (h t r)
  unfold inside
  rw [iota_single_apply]
  rfl

theorem pos_out (B : ℕ → F .f32) (g : ℕ → ℕ → F .f32) : pos 0#1 B g = 0#1 := by
  unfold pos IntOp.andi; exact BitVec.and_zero
theorem neg_out (B : ℕ → F .f32) (g : ℕ → ℕ → F .f32) : neg 0#1 B g = 0#1 := by
  unfold neg IntOp.andi; exact BitVec.and_zero
theorem valid_out (B : ℕ → F .f32) (g : ℕ → ℕ → F .f32) : valid 0#1 B g = 0#1 := by
  unfold valid; rw [pos_out, neg_out]; rfl

/-- A lane that is no anchor adds zero. -/
theorem lane_out (B S : ℕ → F .f32) (o : F .f32) (g : ℕ → ℕ → F .f32) (lb : ℕ → F .f32) (k : ℕ) :
    lane 0#1 B S o g lb k = num 0x00000000#32 := by
  unfold lane
  split <;> simp only [pos_out, valid_out, ofBit, Scalar.select] <;> rfl

/-- What the anchor in row `n`, lane `l` of the arrays adds to sum `k`. -/
def anchor (A0 : Vec F S7x1875x128 .f32) (A1 : Vec F S10x1875x128 .f32) (A2 : Vec F S1875x128 .f32)
    (x3 : Vec F S50x7 .f32) (x4 : Vec F S50 .f32) (n : Fin 1875) (l : Fin 128) (k : ℕ) : F .f32 :=
  lane 1#1 (fun a => A0 (ix3 (⟨a % 7, Nat.mod_lt a (by decide)⟩ : Fin 7) n l))
    (fun a => A1 (ix3 (⟨a % 10, Nat.mod_lt a (by decide)⟩ : Fin 10) n l)) (A2 (ix2 n l)) (entG x3) (entL x4) k

/-- What block `t` adds to sum `k`. -/
def partAt (A0 : Vec F S7x1875x128 .f32) (A1 : Vec F S10x1875x128 .f32) (A2 : Vec F S1875x128 .f32)
    (x3 : Vec F S50x7 .f32) (x4 : Vec F S50 .f32) (t : ℕ) (k : ℕ) : F .f32 :=
  blockSum fun p => if h : 64 * t + (p 0).val < 1875 then anchor A0 A1 A2 x3 x4 ⟨64 * t + (p 0).val, h⟩ (p 1) k
    else num 0x00000000#32

/-- The sums after block `t`. -/
def accAt (A0 : Vec F S7x1875x128 .f32) (A1 : Vec F S10x1875x128 .f32) (A2 : Vec F S1875x128 .f32)
    (x3 : Vec F S50x7 .f32) (x4 : Vec F S50 .f32) (t : ℕ) (k : ℕ) : F .f32 :=
  Nat.rec (Scalar.addf (num 0x00000000#32) (partAt A0 A1 A2 x3 x4 0 k))
    (fun t a => Scalar.addf a (partAt A0 A1 A2 x3 x4 (t + 1) k)) t

/-- Blocks that agree with the arrays up to the arrays' end add what the arrays say. -/
theorem partOf_eq (A0 : Vec F S7x1875x128 .f32) (A1 : Vec F S10x1875x128 .f32) (A2 : Vec F S1875x128 .f32)
    (x0 : Vec F S7x64x128 .f32) (x1 : Vec F S10x64x128 .f32) (x2 : Vec F S64x128 .f32)
    (x3 : Vec F S50x7 .f32) (x4 : Vec F S50 .f32) (t : Fin 30)
    (h0 : ∀ (a : Fin 7) (r : Fin 64) (l : Fin 128) (h : 64 * t.val + r.val < 1875),
      x0 (ix3 a r l) = A0 (ix3 a (⟨64 * t.val + r.val, h⟩ : Fin 1875) l))
    (h1 : ∀ (a : Fin 10) (r : Fin 64) (l : Fin 128) (h : 64 * t.val + r.val < 1875),
      x1 (ix3 a r l) = A1 (ix3 a (⟨64 * t.val + r.val, h⟩ : Fin 1875) l))
    (h2 : ∀ (r : Fin 64) (l : Fin 128) (h : 64 * t.val + r.val < 1875),
      x2 (ix2 r l) = A2 (ix2 (⟨64 * t.val + r.val, h⟩ : Fin 1875) l)) (k : ℕ) :
    partOf (BitVec.ofNat 32 t.val) x0 x1 x2 x3 x4 k = partAt A0 A1 A2 x3 x4 t.val k := by
  unfold partOf part partAt
  congr 1
  funext p
  obtain ⟨r, l, rfl⟩ : ∃ (r : Fin 64) (l : Fin 128), p = ix2 r l := ⟨p 0, p 1, by funext a; fin_cases a <;> rfl⟩
  rw [inside_lane]
  change _ = if h : 64 * t.val + r.val < 1875 then anchor A0 A1 A2 x3 x4 ⟨64 * t.val + r.val, h⟩ l k
    else num 0x00000000#32
  by_cases h : 64 * t.val + r.val < 1875
  · rw [if_pos h, dif_pos h]
    unfold anchor
    congr 1
    · funext a; exact (rowB_lane x0 a r l).trans (h0 _ r l h)
    · funext a; exact (rowS_lane x1 a r l).trans (h1 _ r l h)
    · exact (rowO_lane x2 r l).trans (h2 r l h)
  · rw [if_neg h, lane_out, dif_neg h]

theorem xsize0 : ∀ t : Fin cfg0.N, win0_0.xsize (grid0.coords t) 0 = 7
    ∧ win0_0.xsize (grid0.coords t) 1 = min 64 (1875 - 64 * t.val) ∧ win0_0.xsize (grid0.coords t) 2 = 128 := by
  decide +kernel
theorem xsize1 : ∀ t : Fin cfg0.N, win0_1.xsize (grid0.coords t) 0 = 10
    ∧ win0_1.xsize (grid0.coords t) 1 = min 64 (1875 - 64 * t.val) ∧ win0_1.xsize (grid0.coords t) 2 = 128 := by
  decide +kernel
theorem xsize2 : ∀ t : Fin cfg0.N, win0_2.xsize (grid0.coords t) 0 = min 64 (1875 - 64 * t.val)
    ∧ win0_2.xsize (grid0.coords t) 1 = 128 := by
  decide +kernel

end Cert.KernelIdeal.Body

end
-- ==== Proof.Ideal.Track.lean ====
/- The pipeline's proof data: what the staging buffers and the accumulators hold after every point, and the launch. -/
module

public import proofs.«01_k».proof.Proof.Ideal.Pieces
public import proofs.«01_k».proof.Proof.Ideal.Tail
public import Idealize.ShloMosaic.Lib.CellWrites

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The blocks of the three arrays the grid walks -/

theorem at0 : ∀ t : Fin cfg0.N, ∀ b, cc0_transform_0 (grid0.coords t) b = (![0, t.val, 0] : Fin 3 → ℕ) b := by decide +kernel
theorem at1 : ∀ t : Fin cfg0.N, ∀ b, cc0_transform_1 (grid0.coords t) b = (![0, t.val, 0] : Fin 3 → ℕ) b := by decide +kernel
theorem at2 : ∀ t : Fin cfg0.N, ∀ b, cc0_transform_2 (grid0.coords t) b = (![t.val, 0] : Fin 2 → ℕ) b := by decide +kernel

/-- Window 0's buffer, up to the array's end. -/
theorem fill0 (A : Vec F S7x1875x128 .f32) (t : Fin cfg0.N) (d : Vec F S7x64x128 .f32) (a : Fin 7) (r : Fin 64) (l : Fin 128)
    (h : 64 * t.val + r.val < 1875) :
    win0_0.fill (grid0.coords t) d ((win0_0.blk t).view.read (Elt F) A) (ix3 a r l)
      = A (ix3 a (⟨64 * t.val + r.val, h⟩ : Fin 1875) l) := by
  obtain ⟨e0, e1, e2⟩ := xsize0 t
  have hm : win0_0.moved (grid0.coords t) (ix3 a r l) = true := (win0_0.moved_iff _ _).mpr fun b => by
    fin_cases b
    · exact lt_of_lt_of_eq a.isLt e0.symm
    · refine lt_of_lt_of_eq (?_ : r.val < _) e1.symm
      have := r.isLt; omega
    · exact lt_of_lt_of_eq l.isLt e2.symm
  unfold Window.fill
  rw [dif_pos hm]
  refine congrArg A (funext fun b => Fin.ext ?_)
  fin_cases b
  · exact Eq.trans (b := cc0_transform_0 (grid0.coords t) 0 * 7 + 1 * a.val) (by sl_kernel_rfl)
      (by rw [at0]; show 0 * 7 + 1 * a.val = a.val; omega)
  · exact Eq.trans (b := cc0_transform_0 (grid0.coords t) 1 * 64 + 1 * r.val) (by sl_kernel_rfl)
      (by rw [at0]; show t.val * 64 + 1 * r.val = 64 * t.val + r.val; omega)
  · exact Eq.trans (b := cc0_transform_0 (grid0.coords t) 2 * 128 + 1 * l.val) (by sl_kernel_rfl)
      (by rw [at0]; show 0 * 128 + 1 * l.val = l.val; omega)

/-- Window 1's buffer, up to the array's end. -/
theorem fill1 (A : Vec F S10x1875x128 .f32) (t : Fin cfg0.N) (d : Vec F S10x64x128 .f32) (a : Fin 10) (r : Fin 64) (l : Fin 128)
    (h : 64 * t.val + r.val < 1875) :
    win0_1.fill (grid0.coords t) d ((win0_1.blk t).view.read (Elt F) A) (ix3 a r l)
      = A (ix3 a (⟨64 * t.val + r.val, h⟩ : Fin 1875) l) := by
  obtain ⟨e0, e1, e2⟩ := xsize1 t
  have hm : win0_1.moved (grid0.coords t) (ix3 a r l) = true := (win0_1.moved_iff _ _).mpr fun b => by
    fin_cases b
    · exact lt_of_lt_of_eq a.isLt e0.symm
    · refine lt_of_lt_of_eq (?_ : r.val < _) e1.symm
      have := r.isLt; omega
    · exact lt_of_lt_of_eq l.isLt e2.symm
  unfold Window.fill
  rw [dif_pos hm]
  refine congrArg A (funext fun b => Fin.ext ?_)
  fin_cases b
  · exact Eq.trans (b := cc0_transform_1 (grid0.coords t) 0 * 10 + 1 * a.val) (by sl_kernel_rfl)
      (by rw [at1]; show 0 * 10 + 1 * a.val = a.val; omega)
  · exact Eq.trans (b := cc0_transform_1 (grid0.coords t) 1 * 64 + 1 * r.val) (by sl_kernel_rfl)
      (by rw [at1]; show t.val * 64 + 1 * r.val = 64 * t.val + r.val; omega)
  · exact Eq.trans (b := cc0_transform_1 (grid0.coords t) 2 * 128 + 1 * l.val) (by sl_kernel_rfl)
      (by rw [at1]; show 0 * 128 + 1 * l.val = l.val; omega)

/-- Window 2's buffer, up to the array's end. -/
theorem fill2 (A : Vec F S1875x128 .f32) (t : Fin cfg0.N) (d : Vec F S64x128 .f32) (r : Fin 64) (l : Fin 128)
    (h : 64 * t.val + r.val < 1875) :
    win0_2.fill (grid0.coords t) d ((win0_2.blk t).view.read (Elt F) A) (ix2 r l)
      = A (ix2 (⟨64 * t.val + r.val, h⟩ : Fin 1875) l) := by
  obtain ⟨e1, e2⟩ := xsize2 t
  have hm : win0_2.moved (grid0.coords t) (ix2 r l) = true := (win0_2.moved_iff _ _).mpr fun b => by
    fin_cases b
    · refine lt_of_lt_of_eq (?_ : r.val < _) e1.symm
      have := r.isLt; omega
    · exact lt_of_lt_of_eq l.isLt e2.symm
  unfold Window.fill
  rw [dif_pos hm]
  refine congrArg A (funext fun b => Fin.ext ?_)
  fin_cases b
  · exact Eq.trans (b := cc0_transform_2 (grid0.coords t) 0 * 64 + 1 * r.val) (by sl_kernel_rfl)
      (by rw [at2]; show t.val * 64 + 1 * r.val = 64 * t.val + r.val; omega)
  · exact Eq.trans (b := cc0_transform_2 (grid0.coords t) 1 * 128 + 1 * l.val) (by sl_kernel_rfl)
      (by rw [at2]; show 0 * 128 + 1 * l.val = l.val; omega)

/-! ## What the stores leave -/

/-- Five values as the buffer of the accumulators. -/
def acc5 (v : ℕ → F .f32) : Vec F S5 .f32 := fun i => v (i (0 : Fin 1)).val
/-- Four values as the buffer of the results. -/
def out4 (v : ℕ → F .f32) : Vec F S4 .f32 := fun i => v (i (0 : Fin 1)).val

/-- Five stores, one to each accumulator, leave the five values. -/
theorem read_acc (v : ℕ → F .f32) (L : List (View.Piece (Elt F) S5 .f32)) {κ : Kind} {sp : Space} (w : View sig κ sp S5 .f32)
    (f : w.ty.Contents (Elt F)) : w.read (Elt F) (w.writes (Elt F) f (accPieces v ++ L)) = acc5 v := by
  funext y
  obtain ⟨k, rfl⟩ : ∃ k : Fin 5, y = ix1 k := ⟨y 0, by funext a; fin_cases a; rfl⟩
  have e (o : ℕ) (inb) (p : F .f32) (L : List (View.Piece (Elt F) S5 .f32)) :
      w.read (Elt F) (w.writes (Elt F) f (⟨Rect.unit (s := S5) ![o] S1.size inb, fun _ => p⟩ :: L)) (ix1 k)
        = if k.val = o then p else w.read (Elt F) (w.writes (Elt F) f L) (ix1 k) := View.read_writes_cons_cell w f inb p L (ix1 k)
  unfold accPieces
  simp only [List.cons_append, List.nil_append]
  rw [e, e, e, e, e]
  fin_cases k <;> rfl

/-- Four stores, one to each result, leave the four values. -/
theorem read_out (v : ℕ → F .f32) {κ : Kind} {sp : Space} (w : View sig κ sp S4 .f32)
    (f : w.ty.Contents (Elt F)) : w.read (Elt F) (w.writes (Elt F) f (outPieces v)) = out4 v := by
  funext y
  obtain ⟨k, rfl⟩ : ∃ k : Fin 4, y = ix1 k := ⟨y 0, by funext a; fin_cases a; rfl⟩
  have e (o : ℕ) (inb) (p : F .f32) (L : List (View.Piece (Elt F) S4 .f32)) :
      w.read (Elt F) (w.writes (Elt F) f (⟨Rect.unit (s := S4) ![o] S1.size inb, fun _ => p⟩ :: L)) (ix1 k)
        = if k.val = o then p else w.read (Elt F) (w.writes (Elt F) f L) (ix1 k) := View.read_writes_cons_cell w f inb p L (ix1 k)
  unfold outPieces
  rw [e, e, e, e]
  fin_cases k <;> rfl

/-- Accumulator `k` of the buffer of five values. -/
theorem entA_acc5 (v : ℕ → F .f32) (k : ℕ) (hk : k < 5) : entA (acc5 v) k = v k := by
  show v (k % 5 + 1 * 0) = v k
  rw [Nat.mod_eq_of_lt hk]; rfl

theorem acc5_congr {v w : ℕ → F .f32} (h : ∀ k, k < 5 → v k = w k) : acc5 v = acc5 w := by
  funext i; exact h _ (i (0 : Fin 1)).isLt

theorem out4_congr {v w : ℕ → F .f32} (h : ∀ k, k < 5 → v k = w k) : out4 (outOf v) = out4 (outOf w) := by
  funext i; unfold out4 outOf; rw [h 0 (by decide), h 1 (by decide), h 2 (by decide), h 3 (by decide), h 4 (by decide)]

variable (m : (ℓ : Loc nD τ sig) → Buf (Elt F) ℓ) (ρ : Dev nD → PrngReg)

/-- Sum `k` after point `n`, from the arrays as the region finds them. -/
def sums (c : Dev nD) (n k : ℕ) : F .f32 :=
  accAt (V m c main_v2) (V m c main_v4) (V m c main_v5) (V m c main_arg3) (V m c main_v6) n k

theorem iblk3 (c : Dev nD) (t : Fin cfg0.N) : (iblk m c 3 t : Vec F S50x7 .f32) = V m c main_arg3 := by
  funext j
  refine congrArg (V m c main_arg3) (funext fun b => Fin.ext ?_)
  fin_cases b
  · exact Eq.trans (b := 0 * 50 + 1 * (j (0 : Fin 2)).val) (by sl_kernel_rfl) (by show 0 * 50 + 1 * (j (0 : Fin 2)).val = (j (0 : Fin 2)).val; omega)
  · exact Eq.trans (b := 0 * 7 + 1 * (j (1 : Fin 2)).val) (by sl_kernel_rfl) (by show 0 * 7 + 1 * (j (1 : Fin 2)).val = (j (1 : Fin 2)).val; omega)

theorem iblk4 (c : Dev nD) (t : Fin cfg0.N) : (iblk m c 4 t : Vec F S50 .f32) = V m c main_v6 := by
  funext j
  refine congrArg (V m c main_v6) (funext fun b => Fin.ext ?_)
  fin_cases b
  exact Eq.trans (b := 0 * 50 + 1 * (j (0 : Fin 1)).val) (by sl_kernel_rfl) (by show 0 * 50 + 1 * (j (0 : Fin 1)).val = (j (0 : Fin 1)).val; omega)

/-- What the three moving buffers hold at point `t`: the block up to the array's end, `d` past it. -/
abbrev buf0 (c : Dev nD) (t : Fin cfg0.N) (d : Vec F S7x64x128 .f32) : Vec F S7x64x128 .f32 := win0_0.fill (grid0.coords t) d (iblk m c 0 t)
abbrev buf1 (c : Dev nD) (t : Fin cfg0.N) (d : Vec F S10x64x128 .f32) : Vec F S10x64x128 .f32 := win0_1.fill (grid0.coords t) d (iblk m c 1 t)
abbrev buf2 (c : Dev nD) (t : Fin cfg0.N) (d : Vec F S64x128 .f32) : Vec F S64x128 .f32 := win0_2.fill (grid0.coords t) d (iblk m c 2 t)

/-- One point's step, whatever the buffers hold past the arrays' end. -/
theorem step_eq (c : Dev nD) (t : Fin cfg0.N) (d0 d1 d2) (a : ℕ → F .f32) (k : ℕ) :
    stepOf (BitVec.ofNat 32 ((grid0.coords t) 0).val) (buf0 m c t d0) (buf1 m c t d1) (buf2 m c t d2) (iblk m c 3 t) (iblk m c 4 t) a k
      = Scalar.addf (a k) (partAt (V m c main_v2) (V m c main_v4) (V m c main_v5) (V m c main_arg3) (V m c main_v6) t.val k) := by
  have hN : t.val < 30 := lt_of_lt_of_eq t.isLt (show cfg0.N = 30 from N_0)
  have e0 : ((grid0.coords t) 0).val = t.val := (Pipeline.Grid.coords_val t 0 (by decide) rfl).trans (show t.val / 1 % 30 = t.val by omega)
  unfold stepOf
  rw [e0, iblk3 m c t, iblk4 m c t]
  exact congrArg (Scalar.addf (a k)) (partOf_eq _ _ _ _ _ _ _ _ ⟨t.val, hN⟩ (fun a r l h => fill0 _ t d0 a r l h)
    (fun a r l h => fill1 _ t d1 a r l h) (fun r l h => fill2 _ t d2 r l h) k)

theorem step_first (c : Dev nD) (t : Fin cfg0.N) (ht : t.val = 0) (d0 d1 d2) (k : ℕ) :
    stepOf (BitVec.ofNat 32 ((grid0.coords t) 0).val) (buf0 m c t d0) (buf1 m c t d1) (buf2 m c t d2) (iblk m c 3 t) (iblk m c 4 t) (fun _ => num 0x00000000#32) k
      = sums m c t.val k := by
  rw [step_eq, ht]; rfl

theorem step_next (c : Dev nD) (t : Fin cfg0.N) (ht : t.val ≠ 0) (d0 d1 d2) (k : ℕ) (hk : k < 5) :
    stepOf (BitVec.ofNat 32 ((grid0.coords t) 0).val) (buf0 m c t d0) (buf1 m c t d1) (buf2 m c t d2) (iblk m c 3 t) (iblk m c 4 t) (entA (acc5 (sums m c (t.val - 1)))) k
      = sums m c t.val k := by
  rw [step_eq, entA_acc5 _ _ hk]
  obtain ⟨n, hn⟩ : ∃ n, t.val = n + 1 := ⟨t.val - 1, by omega⟩
  rw [hn]; rfl

/-! ## The proof data -/

/-- What is kept between points: the accumulators at the sums so far, and the generator register. -/
def kept (c : Dev nD) : ℕ → sProp 𝕄
  | 0 => Pipeline.ΦA spec0 c
  | n + 1 => iprop(iprop(owns (c : Thread nD τ) scM0_0 fullShare (acc5 (sums m c n))) ∗ (∃ r, prngReg c r))

theorem kept_pos (c : Dev nD) (n : ℕ) (hz : n ≠ 0) :
    kept m c n = iprop(iprop(owns (c : Thread nD τ) scM0_0 fullShare (acc5 (sums m c (n - 1)))) ∗ (∃ r, prngReg c r)) := by
  cases n with
  | zero => exact absurd rfl hz
  | succ n => rfl

/-- The arrays as the region finds them; after a point each input's buffer at its block, the results' buffer at the results of the
    sums so far; the sums kept between points. -/
def dats (_ : Fin 1) (c : Dev nD) : Dat τ (Elt F) Unit ℕ (UR sig nD τ) ℕ cfg0 c where
  A w := V m c (Pipeline.arrRef spec0 w)
  after w t := match w with
    | ⟨0, _⟩ => buf0 m c t (fun _ => num 0x00000000#32)
    | ⟨1, _⟩ => buf1 m c t (fun _ => num 0x00000000#32)
    | ⟨2, _⟩ => buf2 m c t (fun _ => num 0x00000000#32)
    | ⟨3, _⟩ => iblk m c 3 t
    | ⟨4, _⟩ => iblk m c 4 t
    | ⟨5, _⟩ => out4 (outOf (sums m c t.val))
  Φ t := kept m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = buf0 m c t (fun _ => num 0x00000000#32) := by dsimp only [dats]
theorem after0_1 (c : Dev nD) (t : Fin cfg0.N) : (dats m 0 c).after 1 t = buf1 m c t (fun _ => num 0x00000000#32) := by dsimp only [dats]
theorem after0_2 (c : Dev nD) (t : Fin cfg0.N) : (dats m 0 c).after 2 t = buf2 m c t (fun _ => num 0x00000000#32) := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out4 (outOf (sums m c t.val)) := by dsimp only [dats]

theorem fetch_0 : ∀ t : Fin cfg0.N, (cfg0.win 0).fetch t = true := by decide +kernel
theorem fetch_1 : ∀ t : Fin cfg0.N, (cfg0.win 1).fetch t = true := by decide +kernel
theorem fetch_2 : ∀ t : Fin cfg0.N, (cfg0.win 2).fetch t = true := by decide +kernel

theorem before0_0 (c : Dev nD) (t : Fin cfg0.N) (d) : (dats m 0 c).before 0 t d = buf0 m c t d := by
  unfold Dat.before; rw [if_pos (fetch_0 t)]; rfl
theorem before0_1 (c : Dev nD) (t : Fin cfg0.N) (d) : (dats m 0 c).before 1 t d = buf1 m c t d := by
  unfold Dat.before; rw [if_pos (fetch_1 t)]; rfl
theorem before0_2 (c : Dev nD) (t : Fin cfg0.N) (d) : (dats m 0 c).before 2 t d = buf2 m c t d := by
  unfold Dat.before; rw [if_pos (fetch_2 t)]; rfl
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The buffers handed back -/

theorem back0 (c : Dev nD) (t : Fin cfg0.N) (d) :
    owns (c : Thread nD τ) (ms0_0 t) fullShare (buf0 m c t d) ⊢ ((dats m 0 c).leaves 0 t : sProp 𝕄) := by
  rw [show ((dats m 0 c).leaves 0 t : sProp 𝕄) = iprop(∃ d, owns (c : Thread nD τ) (ms0_0 t) fullShare
    (win0_0.fill (grid0.coords t) d (win0_0.cut (grid0.coords t) ((dats m 0 c).after 0 t)))) from rfl, after0_0,
    show win0_0.cut (grid0.coords t) (buf0 m c t (fun _ => num 0x00000000#32)) = iblk m c 0 t from win0_0.cut_fill _ _ _]
  iintro H; iexists d; iexact H
theorem back1 (c : Dev nD) (t : Fin cfg0.N) (d) :
    owns (c : Thread nD τ) (ms0_1 t) fullShare (buf1 m c t d) ⊢ ((dats m 0 c).leaves 1 t : sProp 𝕄) := by
  rw [show ((dats m 0 c).leaves 1 t : sProp 𝕄) = iprop(∃ d, owns (c : Thread nD τ) (ms0_1 t) fullShare
    (win0_1.fill (grid0.coords t) d (win0_1.cut (grid0.coords t) ((dats m 0 c).after 1 t)))) from rfl, after0_1,
    show win0_1.cut (grid0.coords t) (buf1 m c t (fun _ => num 0x00000000#32)) = iblk m c 1 t from win0_1.cut_fill _ _ _]
  iintro H; iexists d; iexact H
theorem back2 (c : Dev nD) (t : Fin cfg0.N) (d) :
    owns (c : Thread nD τ) (ms0_2 t) fullShare (buf2 m c t d) ⊢ ((dats m 0 c).leaves 2 t : sProp 𝕄) := by
  rw [show ((dats m 0 c).leaves 2 t : sProp 𝕄) = iprop(∃ d, owns (c : Thread nD τ) (ms0_2 t) fullShare
    (win0_2.fill (grid0.coords t) d (win0_2.cut (grid0.coords t) ((dats m 0 c).after 2 t)))) from rfl, after0_2,
    show win0_2.cut (grid0.coords t) (buf2 m c t (fun _ => num 0x00000000#32)) = iblk m c 2 t from win0_2.cut_fill _ _ _]
  iintro H; iexists d; iexact H
theorem back3 (c : Dev nD) (t : Fin cfg0.N) :
    owns (c : Thread nD τ) (ms0_3 t) fullShare (iblk m c 3 t) ⊢ ((dats m 0 c).leaves 3 t : sProp 𝕄) := by
  rw [show ((dats m 0 c).leaves 3 t : sProp 𝕄) = owns (c : Thread nD τ) (ms0_3 t) fullShare ((dats m 0 c).after 3 t) from rfl, after0_3]
theorem back4 (c : Dev nD) (t : Fin cfg0.N) :
    owns (c : Thread nD τ) (ms0_4 t) fullShare (iblk m c 4 t) ⊢ ((dats m 0 c).leaves 4 t : sProp 𝕄) := by
  rw [show ((dats m 0 c).leaves 4 t : sProp 𝕄) = owns (c : Thread nD τ) (ms0_4 t) fullShare ((dats m 0 c).after 4 t) from rfl, after0_4]

/-! ## The body at every point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 4800000 in
/-- The body at any point, by the case the point is in: the triple's buffers are the point's, and the sums step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = kept m c t.val from rfl,
    show (dats m 0 c).Φ t.succ = iprop(iprop(owns (c : Thread nD τ) scM0_0 fullShare (acc5 (sums m c t.val))) ∗ (∃ r, prngReg c r)) from rfl]
  have hN : t.val < 30 := lt_of_lt_of_eq t.isLt (show cfg0.N = 30 from N_0)
  by_cases h0 : t.val % 30 = 0
  · have h1 : ¬t.val % 30 = 29 := by omega
    have hz : t.val = 0 := by omega
    rw [Dat.leaves_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [show kept m c t.val = Pipeline.ΦA spec0 c by rw [hz]; exact rfl, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (buf0 m c t d0) (buf1 m c t d1) (buf2 m c t d2) (iblk m c 3 t) (iblk m c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg]
    · isplitl [HS0]
      · unfold owns; iexists _; isplitr
        swap; · iexact HS0
        ipureintro
        rw [pieces_A]
        exact (read_acc _ _ _ _).trans (acc5_congr fun k _ => step_first m c t hz d0 d1 d2 k)
      iexact Hg
    isplitl [Ho]; · iexact Ho
    isplitl [H0]; · iapply (back0 m c t d0); iexact H0
    isplitl [H1]; · iapply (back1 m c t d1); iexact H1
    isplitl [H2]; · iapply (back2 m c t d2); iexact H2
    isplitl [H3]; · iapply (back3 m c t); iexact H3
    isplitl [H4]; · iapply (back4 m c t); iexact H4
    iexists _; iexact H5
  · have hz : t.val ≠ 0 := by omega
    rw [kept_pos m c _ hz]
    by_cases h1 : t.val % 30 = 29
    · rw [show ((dats m 0 c).leaves 5 t : sProp 𝕄) = owns (c : Thread nD τ) (ms0_5 t) fullShare ((dats m 0 c).after 5 t) from by
        unfold Dat.leaves; rw [liveAt0_5_C t (fun h => h0 ((hcond0_0 t).mp h)) ((hcond0_1 t).mpr h1)], after0_5]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (buf0 m c t d0) (buf1 m c t d1) (buf2 m c t d2) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro
          rw [pieces_C]
          exact (congrArg _ (congrArg _ (List.append_nil _).symm)).trans ((read_acc _ [] _ _).trans (acc5_congr fun k hk => step_next m c t hz d0 d1 d2 k hk))
        iexact Hg
      isplitl [Ho]; · iexact Ho
      isplitl [H0]; · iapply (back0 m c t d0); iexact H0
      isplitl [H1]; · iapply (back1 m c t d1); iexact H1
      isplitl [H2]; · iapply (back2 m c t d2); iexact H2
      isplitl [H3]; · iapply (back3 m c t); iexact H3
      isplitl [H4]; · iapply (back4 m c t); iexact H4
      unfold owns; iexists _; isplitr
      swap; · iexact H5
      ipureintro
      rw [pieces_C_out]
      exact (read_out _ _ _).trans (out4_congr fun k hk => step_next m c t hz d0 d1 d2 k hk)
    · rw [Dat.leaves_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (buf0 m c t d0) (buf1 m c t d1) (buf2 m c t d2) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro
          rw [pieces_B]
          exact (congrArg _ (congrArg _ (List.append_nil _).symm)).trans ((read_acc _ [] _ _).trans (acc5_congr fun k hk => step_next m c t hz d0 d1 d2 k hk))
        iexact Hg
      isplitl [Ho]; · iexact Ho
      isplitl [H0]; · iapply (back0 m c t d0); iexact H0
      isplitl [H1]; · iapply (back1 m c t d1); iexact H1
      isplitl [H2]; · iapply (back2 m c t d2); iexact H2
      isplitl [H3]; · iapply (back3 m c t); iexact H3
      isplitl [H4]; · iapply (back4 m c t); iexact H4
      iexists _; iexact H5

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = kept m c (Fin.last cfg0.N).val from rfl,
    kept_pos m c _ (by rw [Fin.val_last]; have : cfg0.N = 30 := N_0; omega), PhiA0_eq]
  iintro ⟨HS0, Hg⟩
  isplitl [HS0]
  · iexists _; iexact HS0
  iexact Hg

/-! ## The launch -/

set_option backward.isDefEq.respectTransparency.types false in
set_option maxHeartbeats 800000 in
/-- Every execution of the program ends, with the arrays as the proof data says and every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they began. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c)⟩

/-- The frame, with every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨args_kept m r h.1, h.2⟩) (run_main m ρ)

end Cert.KernelIdeal.Body

end
-- ==== Proof.Ideal.Printed.lean ====
/- The kernel as printed and the kernel after the ideal pass are one program, so what holds of one at any float type holds of the other. -/
module

public import proofs.«01_k».proof.Proof.Ideal.Track
public import proofs.«01_k».proof.Proof.Gen.Kernel.Frame
public import Idealize.ShloMosaic.Lib.Tactic

@[expose] public section

set_option maxRecDepth 16384

noncomputable section

namespace Cert.Printed

open Idealize.ShloMosaic Idealize.ShloMosaic.Tactic Idealize.SL.Sem

variable {F : FTy → Type} [FloatOps F]

set_option maxHeartbeats 4000000 in
theorem main_same : (Cert.Kernel.main (F := F)) = (Cert.KernelIdeal.main (F := F)) := by sl_kernel_rfl

set_option maxHeartbeats 4000000 in
theorem defs_same : (Cert.Kernel.defs (F := F)) = (Cert.KernelIdeal.defs (F := F)) := by sl_kernel_rfl

open Cert.Kernel in
/-- The printed kernel terminates, its arguments unchanged and every counter at zero. -/
theorem quiescent (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [main_same, defs_same]
  exact Cert.KernelIdeal.Body.quiescent m ρ

end Cert.Printed

end
-- ==== Proof.Ref.Ops.lean ====
/- The reference's host operations as lists, cut where its mathematics has its steps, and its run. -/
module

public import proofs.«01_k».proof.Proof.Gen.ReferenceIdeal
public import Idealize.ShloMosaic.Lib.StableHlo.Run
public import Idealize.ShloMosaic.Lib.Pipeline.Frame
public import Idealize.ShloMosaic.Lib.Claim
public import Idealize.ShloMosaic.Lib.Tactic

@[expose] public section

set_option maxRecDepth 16384

noncomputable section

namespace Cert.ReferenceIdeal.Steps

open Cert.ReferenceIdeal Cert.ReferenceIdeal.Gen Idealize.ShloMosaic Idealize.ShloMosaic.TcCoe Idealize.ShloMosaic.Tactic
open Idealize.SL.Sem Idealize.ShloMosaic.StableHlo

variable {F : FTy → Type} [FloatOps F]

/-- The operations of one call of `clip`. -/
abbrev ops_clip (arg0 : TRef sig ⟨S240000x50, .f32⟩) (arg1 : TRef sig ⟨S_, .i32⟩) (φ : fn_clip.Bufs) : List (HloOp τ sig (Elt F)) :=
  [ TRef.unary arg1 φ.v0 (sitofp .f32),
    TRef.unary φ.v0 φ.v1 (broadcastInDim S240000x50 ![] bcast_S_S240000x50),
    TRef.binary φ.v1 arg0 φ.v2 maximumf ]

/-- The operations of one call of `argmax`. -/
abbrev ops_argmax (arg0 : TRef sig ⟨S240000x50, .f32⟩) (φ : fn_argmax.Bufs) : List (HloOp τ sig (Elt F)) :=
  [ TRef.nullary φ.v0 (iotaInDim S240000x50 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S240000x50_S240000_d1 h_S_ j).1),
    TRef.quaternary arg0 φ.v0 φ.cst φ.c φ.v1_1 (fun x y u v j => (Host.argReduce reducer_argmax_f32_i32 x y u v reducesTo_S240000x50_S240000_d1 h_S_ j).2) ]

/-- The operations of one call of `where`. -/
abbrev ops_where (arg0 : TRef sig ⟨S240000x1, .i1⟩) (arg1 : TRef sig ⟨S240000x7, .f32⟩) (arg2 : TRef sig ⟨S_, .f32⟩) (φ : fn_where.Bufs) : List (HloOp τ sig (Elt F)) :=
  [ TRef.unary arg2 φ.v0 id,
    TRef.unary arg0 φ.v1 (broadcastInDim S240000x7 ![0, 1] bcast_S240000x1_S240000x7_0_1),
    TRef.unary φ.v0 φ.v2 (broadcastInDim S240000x7 ![] bcast_S_S240000x7),
    TRef.ternary φ.v1 arg1 φ.v2 φ.v3 select ]

/-- The operations of one call of `where_0`. -/
abbrev ops_where_0 (arg0 : TRef sig ⟨S240000, .i1⟩) (arg1 : TRef sig ⟨S240000, .i32⟩) (arg2 : TRef sig ⟨S_, .i32⟩) (φ : fn_where_0.Bufs) : List (HloOp τ sig (Elt F)) :=
  [ TRef.unary arg2 φ.v0 id,
    TRef.unary φ.v0 φ.v1 (broadcastInDim S240000 ![] bcast_S_S240000),
    TRef.ternary arg0 arg1 φ.v1 φ.v2 select ]

/-- The operations of one call of `one_hot`. -/
abbrev ops_one_hot (arg0 : TRef sig ⟨S6x200x200, .i32⟩) (φ : fn_one_hot.Bufs) : List (HloOp τ sig (Elt F)) :=
  [ TRef.unary arg0 φ.v0 (broadcastInDim S6x200x200x1 ![0, 1, 2] bcast_S6x200x200_S6x200x200x1_0_1_2),
    TRef.nullary φ.v1 (iotaInDim S1x1x1x10 32 3),
    TRef.unary φ.v0 φ.v2 (broadcastInDim S6x200x200x10 ![0, 1, 2, 3] bcast_S6x200x200x1_S6x200x200x10_0_1_2_3),
    TRef.unary φ.v1 φ.v3 (broadcastInDim S6x200x200x10 ![0, 1, 2, 3] bcast_S1x1x1x10_S6x200x200x10_0_1_2_3),
    TRef.binary φ.v2 φ.v3 φ.v4 (cmpi .eq),
    TRef.unary φ.v4 φ.v5 (uitofp .f32) ]

/-- The operations of one call of `where_1`. -/
abbrev ops_where_1 (arg0 : TRef sig ⟨S6x10x200x200, .i1⟩) (arg1 : TRef sig ⟨S6x10x200x200, .f32⟩) (arg2 : TRef sig ⟨S6x10x200x200, .f32⟩) (φ : fn_where_1.Bufs) : List (HloOp τ sig (Elt F)) :=
  [ TRef.ternary arg0 arg1 arg2 φ.v0 select ]

/-- The operations of one call of `where_2`. -/
abbrev ops_where_2 (arg0 : TRef sig ⟨S6x10x200x200, .i1⟩) (arg1 : TRef sig ⟨S_, .f32⟩) (arg2 : TRef sig ⟨S_, .f32⟩) (φ : fn_where_2.Bufs) : List (HloOp τ sig (Elt F)) :=
  [ TRef.unary arg1 φ.v0 (broadcastInDim S6x10x200x200 ![] bcast_S_S6x10x200x200),
    TRef.unary arg2 φ.v1 (broadcastInDim S6x10x200x200 ![] bcast_S_S6x10x200x200),
    TRef.ternary arg0 φ.v0 φ.v1 φ.v2 select ]

/-- The operations of one call of `where_3`. -/
abbrev ops_where_3 (arg0 : TRef sig ⟨S6x200x200x7, .i1⟩) (arg1 : TRef sig ⟨S6x200x200x7, .f32⟩) (arg2 : TRef sig ⟨S6x200x200x7, .f32⟩) (φ : fn_where_3.Bufs) : List (HloOp τ sig (Elt F)) :=
  [ TRef.ternary arg0 arg1 arg2 φ.v0 select ]

/-- The operations of one call of `where_4`. -/
abbrev ops_where_4 (arg0 : TRef sig ⟨S_, .i1⟩) (arg1 : TRef sig ⟨S_, .f32⟩) (arg2 : TRef sig ⟨S_, .f32⟩) (φ : fn_where_4.Bufs) : List (HloOp τ sig (Elt F)) :=
  [ TRef.ternary arg0 arg1 arg2 φ.v0 select ]

/-- Window 0. -/
abbrev w0 : List (HloOp τ sig (Elt F)) :=
  [ reshape main_arg0 main_v0 (rfl : (.f32 : EltTy) = .f32) shapeCasts_S6x200x200x7_S240000x7,
    unary main_v0 main_v1 ((extractStridedSlice S240000x1 ![0, 0] · slices_S240000x7_S240000x1_0_0) : (⟨S240000x7, .f32⟩ : BufTy).Contents (Elt F) → (⟨S240000x1, .f32⟩ : BufTy).Contents (Elt F)),
    reshape main_v1 main_v2 (rfl : (.f32 : EltTy) = .f32) shapeCasts_S240000x1_S240000,
    unary main_v0 main_v3 ((extractStridedSlice S240000x1 ![0, 1] · slices_S240000x7_S240000x1_0_1) : (⟨S240000x7, .f32⟩ : BufTy).Contents (Elt F) → (⟨S240000x1, .f32⟩ : BufTy).Contents (Elt F)),
    reshape main_v3 main_v4 (rfl : (.f32 : EltTy) = .f32) shapeCasts_S240000x1_S240000,
    unary main_v0 main_v5 ((extractStridedSlice S240000x1 ![0, 3] · slices_S240000x7_S240000x1_0_3) : (⟨S240000x7, .f32⟩ : BufTy).Contents (Elt F) → (⟨S240000x1, .f32⟩ : BufTy).Contents (Elt F)),
    reshape main_v5 main_v6 (rfl : (.f32 : EltTy) = .f32) shapeCasts_S240000x1_S240000,
    unary main_v0 main_v7 ((extractStridedSlice S240000x1 ![0, 4] · slices_S240000x7_S240000x1_0_4) : (⟨S240000x7, .f32⟩ : BufTy).Contents (Elt F) → (⟨S240000x1, .f32⟩ : BufTy).Contents (Elt F)),
    reshape main_v7 main_v8 (rfl : (.f32 : EltTy) = .f32) shapeCasts_S240000x1_S240000,
    nullary main_cst (constant S_ .f32 0x40000000#32),
    unary main_cst main_v9 (broadcastInDim S240000 ![] bcast_S_S240000 : (⟨S_, .f32⟩ : BufTy).Contents (Elt F) → (⟨S240000, .f32⟩ : BufTy).Contents (Elt F)),
    binary main_v6 main_v9 main_v10 (Host.divf : (⟨S240000, .f32⟩ : BufTy).Contents (Elt F) → (⟨S240000, .f32⟩ : BufTy).Contents (Elt F) → (⟨S240000, .f32⟩ : BufTy).Contents (Elt F)),
    binary main_v2 main_v10 main_v11 (subf : (⟨S240000, .f32⟩ : BufTy).Contents (Elt F) → (⟨S240000, .f32⟩ : BufTy).Contents (Elt F) → (⟨S240000, .f32⟩ : BufTy).Contents (Elt F)),
    nullary main_cst_0 (constant S_ .f32 0x40000000#32),
    unary main_cst_0 main_v12 (broadcastInDim S240000 ![] bcast_S_S240000 : (⟨S_, .f32⟩ : BufTy).Contents (Elt F) → (⟨S240000, .f32⟩ : BufTy).Contents (Elt F)),
    binary main_v8 main_v12 main_v13 (Host.divf : (⟨S240000, .f32⟩ : BufTy).Contents (Elt F) → (⟨S240000, .f32⟩ : BufTy).Contents (Elt F) → (⟨S240000, .f32⟩ : BufTy).Contents (Elt F)),
    binary main_v4 main_v13 main_v14 (subf : (⟨S240000, .f32⟩ : BufTy).Contents (Elt F) → (⟨S240000, .f32⟩ : BufTy).Contents (Elt F) → (⟨S240000, .f32⟩ : BufTy).Contents (Elt F)),
    nullary main_cst_1 (constant S_ .f32 0x40000000#32),
    unary main_cst_1 main_v15 (broadcastInDim S240000 ![] bcast_S_S240000 : (⟨S_, .f32⟩ : BufTy).Contents (Elt F) → (⟨S240000, .f32⟩ : BufTy).Contents (Elt F)),
    binary main_v6 main_v15 main_v16 (Host.divf : (⟨S240000, .f32⟩ : BufTy).Contents (Elt F) → (⟨S240000, .f32⟩ : BufTy).Contents (Elt F) → (⟨S240000, .f32⟩ : BufTy).Contents (Elt F)),
    binary main_v2 main_v16 main_v17 (addf : (⟨S240000, .f32⟩ : BufTy).Contents (Elt F) → (⟨S240000, .f32⟩ : BufTy).Contents (Elt F) → (⟨S240000, .f32⟩ : BufTy).Contents (Elt F)),
    nullary main_cst_2 (constant S_ .f32 0x40000000#32),
    unary main_cst_2 main_v18 (broadcastInDim S240000 ![] bcast_S_S240000 : (⟨S_, .f32⟩ : BufTy).Contents (Elt F) → (⟨S240000, .f32⟩ : BufTy).Contents (Elt F)),
    binary main_v8 main_v18 main_v19 (Host.divf : (⟨S240000, .f32⟩ : BufTy).Contents (Elt F) → (⟨S240000, .f32⟩ : BufTy).Contents (Elt F) → (⟨S240000, .f32⟩ : BufTy).Contents (Elt F)),
    binary main_v4 main_v19 main_v20 (addf : (⟨S240000, .f32⟩ : BufTy).Contents (Elt F) → (⟨S240000, .f32⟩ : BufTy).Contents (Elt F) → (⟨S240000, .f32⟩ : BufTy).Contents (Elt F)),
    unary main_v11 main_v21 (broadcastInDim S240000x1 ![0] bcast_S240000_S240000x1_0 : (⟨S240000, .f32⟩ : BufTy).Contents (Elt F) → (⟨S240000x1, .f32⟩ : BufTy).Contents (Elt F)),
    unary main_v14 main_v22 (broadcastInDim S240000x1 ![0] bcast_S240000_S240000x1_0 : (⟨S240000, .f32⟩ : BufTy).Contents (Elt F) → (⟨S240000x1, .f32⟩ : BufTy).Contents (Elt F)),
    unary main_v17 main_v23 (broadcastInDim S240000x1 ![0] bcast_S240000_S240000x1_0 : (⟨S240000, .f32⟩ : BufTy).Contents (Elt F) → (⟨S240000x1, .f32⟩ : BufTy).Contents (Elt F)),
    unary main_v20 main_v24 (broadcastInDim S240000x1 ![0] bcast_S240000_S240000x1_0 : (⟨S240000, .f32⟩ : BufTy).Contents (Elt F) → (⟨S240000x1, .f32⟩ : BufTy).Contents (Elt F)),
    nary ![main_v21, main_v22, main_v23, main_v24] main_v25 (fun u => (concatenate S240000x4 1 [⟨S240000x1, (u 0 : (⟨S240000x1, .f32⟩ : BufTy).Contents (Elt F))⟩, ⟨S240000x1, (u 1 : (⟨S240000x1, .f32⟩ : BufTy).Contents (Elt F))⟩, ⟨S240000x1, (u 2 : (⟨S240000x1, .f32⟩ : BufTy).Contents (Elt F))⟩, ⟨S240000x1, (u 3 : (⟨S240000x1, .f32⟩ : BufTy).Contents (Elt F))⟩] concatenates_S240000x1_S240000x1_S240000x1_S240000x1_S240000x4_d1 : (⟨S240000x4, .f32⟩ : BufTy).Contents (Elt F))) ]

/-- Window 1. -/
abbrev w1 : List (HloOp τ sig (Elt F)) :=
  [ unary main_arg3 main_v26 ((extractStridedSlice S50x1 ![0, 0] · slices_S50x7_S50x1_0_0) : (⟨S50x7, .f32⟩ : BufTy).Contents (Elt F) → (⟨S50x1, .f32⟩ : BufTy).Contents (Elt F)),
    reshape main_v26 main_v27 (rfl : (.f32 : EltTy) = .f32) shapeCasts_S50x1_S50,
    unary main_arg3 main_v28 ((extractStridedSlice S50x1 ![0, 1] · slices_S50x7_S50x1_0_1) : (⟨S50x7, .f32⟩ : BufTy).Contents (Elt F) → (⟨S50x1, .f32⟩ : BufTy).Contents (Elt F)),
    reshape main_v28 main_v29 (rfl : (.f32 : EltTy) = .f32) shapeCasts_S50x1_S50,
    unary main_arg3 main_v30 ((extractStridedSlice S50x1 ![0, 3] · slices_S50x7_S50x1_0_3) : (⟨S50x7, .f32⟩ : BufTy).Contents (Elt F) → (⟨S50x1, .f32⟩ : BufTy).Contents (Elt F)),
    reshape main_v30 main_v31 (rfl : (.f32 : EltTy) = .f32) shapeCasts_S50x1_S50,
    unary main_arg3 main_v32 ((extractStridedSlice S50x1 ![0, 4] · slices_S50x7_S50x1_0_4) : (⟨S50x7, .f32⟩ : BufTy).Contents (Elt F) → (⟨S50x1, .f32⟩ : BufTy).Contents (Elt F)),
    reshape main_v32 main_v33 (rfl : (.f32 : EltTy) = .f32) shapeCasts_S50x1_S50,
    nullary main_cst_3 (constant S_ .f32 0x40000000#32),
    unary main_cst_3 main_v34 (broadcastInDim S50 ![] bcast_S_S50 : (⟨S_, .f32⟩ : BufTy).Contents (Elt F) → (⟨S50, .f32⟩ : BufTy).Contents (Elt F)),
    binary main_v31 main_v34 main_v35 (Host.divf : (⟨S50, .f32⟩ : BufTy).Contents (Elt F) → (⟨S50, .f32⟩ : BufTy).Contents (Elt F) → (⟨S50, .f32⟩ : BufTy).Contents (Elt F)),
    binary main_v27 main_v35 main_v36 (subf : (⟨S50, .f32⟩ : BufTy).Contents (Elt F) → (⟨S50, .f32⟩ : BufTy).Contents (Elt F) → (⟨S50, .f32⟩ : BufTy).Contents (Elt F)),
    nullary main_cst_4 (constant S_ .f32 0x40000000#32),
    unary main_cst_4 main_v37 (broadcastInDim S50 ![] bcast_S_S50 : (⟨S_, .f32⟩ : BufTy).Contents (Elt F) → (⟨S50, .f32⟩ : BufTy).Contents (Elt F)),
    binary main_v33 main_v37 main_v38 (Host.divf : (⟨S50, .f32⟩ : BufTy).Contents (Elt F) → (⟨S50, .f32⟩ : BufTy).Contents (Elt F) → (⟨S50, .f32⟩ : BufTy).Contents (Elt F)),
    binary main_v29 main_v38 main_v39 (subf : (⟨S50, .f32⟩ : BufTy).Contents (Elt F) → (⟨S50, .f32⟩ : BufTy).Contents (Elt F) → (⟨S50, .f32⟩ : BufTy).Contents (Elt F)),
    nullary main_cst_5 (constant S_ .f32 0x40000000#32),
    unary main_cst_5 main_v40 (broadcastInDim S50 ![] bcast_S_S50 : (⟨S_, .f32⟩ : BufTy).Contents (Elt F) → (⟨S50, .f32⟩ : BufTy).Contents (Elt F)),
    binary main_v31 main_v40 main_v41 (Host.divf : (⟨S50, .f32⟩ : BufTy).Contents (Elt F) → (⟨S50, .f32⟩ : BufTy).Contents (Elt F) → (⟨S50, .f32⟩ : BufTy).Contents (Elt F)),
    binary main_v27 main_v41 main_v42 (addf : (⟨S50, .f32⟩ : BufTy).Contents (Elt F) → (⟨S50, .f32⟩ : BufTy).Contents (Elt F) → (⟨S50, .f32⟩ : BufTy).Contents (Elt F)),
    nullary main_cst_6 (constant S_ .f32 0x40000000#32),
    unary main_cst_6 main_v43 (broadcastInDim S50 ![] bcast_S_S50 : (⟨S_, .f32⟩ : BufTy).Contents (Elt F) → (⟨S50, .f32⟩ : BufTy).Contents (Elt F)),
    binary main_v33 main_v43 main_v44 (Host.divf : (⟨S50, .f32⟩ : BufTy).Contents (Elt F) → (⟨S50, .f32⟩ : BufTy).Contents (Elt F) → (⟨S50, .f32⟩ : BufTy).Contents (Elt F)),
    binary main_v29 main_v44 main_v45 (addf : (⟨S50, .f32⟩ : BufTy).Contents (Elt F) → (⟨S50, .f32⟩ : BufTy).Contents (Elt F) → (⟨S50, .f32⟩ : BufTy).Contents (Elt F)),
    unary main_v36 main_v46 (broadcastInDim S50x1 ![0] bcast_S50_S50x1_0 : (⟨S50, .f32⟩ : BufTy).Contents (Elt F) → (⟨S50x1, .f32⟩ : BufTy).Contents (Elt F)),
    unary main_v39 main_v47 (broadcastInDim S50x1 ![0] bcast_S50_S50x1_0 : (⟨S50, .f32⟩ : BufTy).Contents (Elt F) → (⟨S50x1, .f32⟩ : BufTy).Contents (Elt F)),
    unary main_v42 main_v48 (broadcastInDim S50x1 ![0] bcast_S50_S50x1_0 : (⟨S50, .f32⟩ : BufTy).Contents (Elt F) → (⟨S50x1, .f32⟩ : BufTy).Contents (Elt F)),
    unary main_v45 main_v49 (broadcastInDim S50x1 ![0] bcast_S50_S50x1_0 : (⟨S50, .f32⟩ : BufTy).Contents (Elt F) → (⟨S50x1, .f32⟩ : BufTy).Contents (Elt F)),
    nary ![main_v46, main_v47, main_v48, main_v49] main_v50 (fun u => (concatenate S50x4 1 [⟨S50x1, (u 0 : (⟨S50x1, .f32⟩ : BufTy).Contents (Elt F))⟩, ⟨S50x1, (u 1 : (⟨S50x1, .f32⟩ : BufTy).Contents (Elt F))⟩, ⟨S50x1, (u 2 : (⟨S50x1, .f32⟩ : BufTy).Contents (Elt F))⟩, ⟨S50x1, (u 3 : (⟨S50x1, .f32⟩ : BufTy).Contents (Elt F))⟩] concatenates_S50x1_S50x1_S50x1_S50x1_S50x4_d1 : (⟨S50x4, .f32⟩ : BufTy).Contents (Elt F))) ]

/-- Window 2. -/
abbrev w2 : List (HloOp τ sig (Elt F)) :=
  [ unary main_v25 main_v51 ((extractStridedSlice S240000x1 ![0, 0] · slices_S240000x4_S240000x1_0_0) : (⟨S240000x4, .f32⟩ : BufTy).Contents (Elt F) → (⟨S240000x1, .f32⟩ : BufTy).Contents (Elt F)),
    reshape main_v51 main_v52 (rfl : (.f32 : EltTy) = .f32) shapeCasts_S240000x1_S240000,
    unary main_v52 main_v53 (broadcastInDim S240000x1 ![0] bcast_S240000_S240000x1_0 : (⟨S240000, .f32⟩ : BufTy).Contents (Elt F) → (⟨S240000x1, .f32⟩ : BufTy).Contents (Elt F)),
    unary main_v50 main_v54 ((extractStridedSlice S50x1 ![0, 0] · slices_S50x4_S50x1_0_0) : (⟨S50x4, .f32⟩ : BufTy).Contents (Elt F) → (⟨S50x1, .f32⟩ : BufTy).Contents (Elt F)),
    reshape main_v54 main_v55 (rfl : (.f32 : EltTy) = .f32) shapeCasts_S50x1_S50,
    unary main_v55 main_v56 (broadcastInDim S1x50 ![1] bcast_S50_S1x50_1 : (⟨S50, .f32⟩ : BufTy).Contents (Elt F) → (⟨S1x50, .f32⟩ : BufTy).Contents (Elt F)),
    unary main_v53 main_v57 (broadcastInDim S240000x50 ![0, 1] bcast_S240000x1_S240000x50_0_1 : (⟨S240000x1, .f32⟩ : BufTy).Contents (Elt F) → (⟨S240000x50, .f32⟩ : BufTy).Contents (Elt F)),
    unary main_v56 main_v58 (broadcastInDim S240000x50 ![0, 1] bcast_S1x50_S240000x50_0_1 : (⟨S1x50, .f32⟩ : BufTy).Contents (Elt F) → (⟨S240000x50, .f32⟩ : BufTy).Contents (Elt F)),
    binary main_v57 main_v58 main_v59 (maximumf : (⟨S240000x50, .f32⟩ : BufTy).Contents (Elt F) → (⟨S240000x50, .f32⟩ : BufTy).Contents (Elt F) → (⟨S240000x50, .f32⟩ : BufTy).Contents (Elt F)),
    unary main_v25 main_v60 ((extractStridedSlice S240000x1 ![0, 1] · slices_S240000x4_S240000x1_0_1) : (⟨S240000x4, .f32⟩ : BufTy).Contents (Elt F) → (⟨S240000x1, .f32⟩ : BufTy).Contents (Elt F)),
    reshape main_v60 main_v61 (rfl : (.f32 : EltTy) = .f32) shapeCasts_S240000x1_S240000,
    unary main_v61 main_v62 (broadcastInDim S240000x1 ![0] bcast_S240000_S240000x1_0 : (⟨S240000, .f32⟩ : BufTy).Contents (Elt F) → (⟨S240000x1, .f32⟩ : BufTy).Contents (Elt F)),
    unary main_v50 main_v63 ((extractStridedSlice S50x1 ![0, 1] · slices_S50x4_S50x1_0_1) : (⟨S50x4, .f32⟩ : BufTy).Contents (Elt F) → (⟨S50x1, .f32⟩ : BufTy).Contents (Elt F)),
    reshape main_v63 main_v64 (rfl : (.f32 : EltTy) = .f32) shapeCasts_S50x1_S50,
    unary main_v64 main_v65 (broadcastInDim S1x50 ![1] bcast_S50_S1x50_1 : (⟨S50, .f32⟩ : BufTy).Contents (Elt F) → (⟨S1x50, .f32⟩ : BufTy).Contents (Elt F)),
    unary main_v62 main_v66 (broadcastInDim S240000x50 ![0, 1] bcast_S240000x1_S240000x50_0_1 : (⟨S240000x1, .f32⟩ : BufTy).Contents (Elt F) → (⟨S240000x50, .f32⟩ : BufTy).Contents (Elt F)),
    unary main_v65 main_v67 (broadcastInDim S240000x50 ![0, 1] bcast_S1x50_S240000x50_0_1 : (⟨S1x50, .f32⟩ : BufTy).Contents (Elt F) → (⟨S240000x50, .f32⟩ : BufTy).Contents (Elt F)),
    binary main_v66 main_v67 main_v68 (maximumf : (⟨S240000x50, .f32⟩ : BufTy).Contents (Elt F) → (⟨S240000x50, .f32⟩ : BufTy).Contents (Elt F) → (⟨S240000x50, .f32⟩ : BufTy).Contents (Elt F)),
    unary main_v25 main_v69 ((extractStridedSlice S240000x1 ![0, 2] · slices_S240000x4_S240000x1_0_2) : (⟨S240000x4, .f32⟩ : BufTy).Contents (Elt F) → (⟨S240000x1, .f32⟩ : BufTy).Contents (Elt F)),
    reshape main_v69 main_v70 (rfl : (.f32 : EltTy) = .f32) shapeCasts_S240000x1_S240000,
    unary main_v70 main_v71 (broadcastInDim S240000x1 ![0] bcast_S240000_S240000x1_0 : (⟨S240000, .f32⟩ : BufTy).Contents (Elt F) → (⟨S240000x1, .f32⟩ : BufTy).Contents (Elt F)),
    unary main_v50 main_v72 ((extractStridedSlice S50x1 ![0, 2] · slices_S50x4_S50x1_0_2) : (⟨S50x4, .f32⟩ : BufTy).Contents (Elt F) → (⟨S50x1, .f32⟩ : BufTy).Contents (Elt F)),
    reshape main_v72 main_v73 (rfl : (.f32 : EltTy) = .f32) shapeCasts_S50x1_S50,
    unary main_v73 main_v74 (broadcastInDim S1x50 ![1] bcast_S50_S1x50_1 : (⟨S50, .f32⟩ : BufTy).Contents (Elt F) → (⟨S1x50, .f32⟩ : BufTy).Contents (Elt F)),
    unary main_v71 main_v75 (broadcastInDim S240000x50 ![0, 1] bcast_S240000x1_S240000x50_0_1 : (⟨S240000x1, .f32⟩ : BufTy).Contents (Elt F) → (⟨S240000x50, .f32⟩ : BufTy).Contents (Elt F)),
    unary main_v74 main_v76 (broadcastInDim S240000x50 ![0, 1] bcast_S1x50_S240000x50_0_1 : (⟨S1x50, .f32⟩ : BufTy).Contents (Elt F) → (⟨S240000x50, .f32⟩ : BufTy).Contents (Elt F)),
    binary main_v75 main_v76 main_v77 (minimumf : (⟨S240000x50, .f32⟩ : BufTy).Contents (Elt F) → (⟨S240000x50, .f32⟩ : BufTy).Contents (Elt F) → (⟨S240000x50, .f32⟩ : BufTy).Contents (Elt F)),
    unary main_v25 main_v78 ((extractStridedSlice S240000x1 ![0, 3] · slices_S240000x4_S240000x1_0_3) : (⟨S240000x4, .f32⟩ : BufTy).Contents (Elt F) → (⟨S240000x1, .f32⟩ : BufTy).Contents (Elt F)),
    reshape main_v78 main_v79 (rfl : (.f32 : EltTy) = .f32) shapeCasts_S240000x1_S240000,
    unary main_v79 main_v80 (broadcastInDim S240000x1 ![0] bcast_S240000_S240000x1_0 : (⟨S240000, .f32⟩ : BufTy).Contents (Elt F) → (⟨S240000x1, .f32⟩ : BufTy).Contents (Elt F)),
    unary main_v50 main_v81 ((extractStridedSlice S50x1 ![0, 3] · slices_S50x4_S50x1_0_3) : (⟨S50x4, .f32⟩ : BufTy).Contents (Elt F) → (⟨S50x1, .f32⟩ : BufTy).Contents (Elt F)),
    reshape main_v81 main_v82 (rfl : (.f32 : EltTy) = .f32) shapeCasts_S50x1_S50,
    unary main_v82 main_v83 (broadcastInDim S1x50 ![1] bcast_S50_S1x50_1 : (⟨S50, .f32⟩ : BufTy).Contents (Elt F) → (⟨S1x50, .f32⟩ : BufTy).Contents (Elt F)),
    unary main_v80 main_v84 (broadcastInDim S240000x50 ![0, 1] bcast_S240000x1_S240000x50_0_1 : (⟨S240000x1, .f32⟩ : BufTy).Contents (Elt F) → (⟨S240000x50, .f32⟩ : BufTy).Contents (Elt F)),
    unary main_v83 main_v85 (broadcastInDim S240000x50 ![0, 1] bcast_S1x50_S240000x50_0_1 : (⟨S1x50, .f32⟩ : BufTy).Contents (Elt F) → (⟨S240000x50, .f32⟩ : BufTy).Contents (Elt F)),
    binary main_v84 main_v85 main_v86 (minimumf : (⟨S240000x50, .f32⟩ : BufTy).Contents (Elt F) → (⟨S240000x50, .f32⟩ : BufTy).Contents (Elt F) → (⟨S240000x50, .f32⟩ : BufTy).Contents (Elt F)),
    binary main_v77 main_v59 main_v87 (subf : (⟨S240000x50, .f32⟩ : BufTy).Contents (Elt F) → (⟨S240000x50, .f32⟩ : BufTy).Contents (Elt F) → (⟨S240000x50, .f32⟩ : BufTy).Contents (Elt F)),
    nullary main_c (constantI S_ 32 0#32) ] ++
  ops_clip (.of main_v87) (.of main_c) main_call0 ++
  [ binary main_v86 main_v68 main_v89 (subf : (⟨S240000x50, .f32⟩ : BufTy).Contents (Elt F) → (⟨S240000x50, .f32⟩ : BufTy).Contents (Elt F) → (⟨S240000x50, .f32⟩ : BufTy).Contents (Elt F)),
    nullary main_c_7 (constantI S_ 32 0#32) ] ++
  ops_clip (.of main_v89) (.of main_c_7) main_call1 ++
  [ binary main_v88 main_v90 main_v91 (mulf : (⟨S240000x50, .f32⟩ : BufTy).Contents (Elt F) → (⟨S240000x50, .f32⟩ : BufTy).Contents (Elt F) → (⟨S240000x50, .f32⟩ : BufTy).Contents (Elt F)) ]

/-- Window 3. -/
abbrev w3 : List (HloOp τ sig (Elt F)) :=
  [ unary main_v25 main_v92 ((extractStridedSlice S240000x1 ![0, 2] · slices_S240000x4_S240000x1_0_2) : (⟨S240000x4, .f32⟩ : BufTy).Contents (Elt F) → (⟨S240000x1, .f32⟩ : BufTy).Contents (Elt F)),
    reshape main_v92 main_v93 (rfl : (.f32 : EltTy) = .f32) shapeCasts_S240000x1_S240000,
    unary main_v25 main_v94 ((extractStridedSlice S240000x1 ![0, 0] · slices_S240000x4_S240000x1_0_0) : (⟨S240000x4, .f32⟩ : BufTy).Contents (Elt F) → (⟨S240000x1, .f32⟩ : BufTy).Contents (Elt F)),
    reshape main_v94 main_v95 (rfl : (.f32 : EltTy) = .f32) shapeCasts_S240000x1_S240000,
    binary main_v93 main_v95 main_v96 (subf : (⟨S240000, .f32⟩ : BufTy).Contents (Elt F) → (⟨S240000, .f32⟩ : BufTy).Contents (Elt F) → (⟨S240000, .f32⟩ : BufTy).Contents (Elt F)),
    unary main_v25 main_v97 ((extractStridedSlice S240000x1 ![0, 3] · slices_S240000x4_S240000x1_0_3) : (⟨S240000x4, .f32⟩ : BufTy).Contents (Elt F) → (⟨S240000x1, .f32⟩ : BufTy).Contents (Elt F)),
    reshape main_v97 main_v98 (rfl : (.f32 : EltTy) = .f32) shapeCasts_S240000x1_S240000,
    unary main_v25 main_v99 ((extractStridedSlice S240000x1 ![0, 1] · slices_S240000x4_S240000x1_0_1) : (⟨S240000x4, .f32⟩ : BufTy).Contents (Elt F) → (⟨S240000x1, .f32⟩ : BufTy).Contents (Elt F)),
    reshape main_v99 main_v100 (rfl : (.f32 : EltTy) = .f32) shapeCasts_S240000x1_S240000,
    binary main_v98 main_v100 main_v101 (subf : (⟨S240000, .f32⟩ : BufTy).Contents (Elt F) → (⟨S240000, .f32⟩ : BufTy).Contents (Elt F) → (⟨S240000, .f32⟩ : BufTy).Contents (Elt F)),
    binary main_v96 main_v101 main_v102 (mulf : (⟨S240000, .f32⟩ : BufTy).Contents (Elt F) → (⟨S240000, .f32⟩ : BufTy).Contents (Elt F) → (⟨S240000, .f32⟩ : BufTy).Contents (Elt F)),
    unary main_v50 main_v103 ((extractStridedSlice S50x1 ![0, 2] · slices_S50x4_S50x1_0_2) : (⟨S50x4, .f32⟩ : BufTy).Contents (Elt F) → (⟨S50x1, .f32⟩ : BufTy).Contents (Elt F)),
    reshape main_v103 main_v104 (rfl : (.f32 : EltTy) = .f32) shapeCasts_S50x1_S50,
    unary main_v50 main_v105 ((extractStridedSlice S50x1 ![0, 0] · slices_S50x4_S50x1_0_0) : (⟨S50x4, .f32⟩ : BufTy).Contents (Elt F) → (⟨S50x1, .f32⟩ : BufTy).Contents (Elt F)),
    reshape main_v105 main_v106 (rfl : (.f32 : EltTy) = .f32) shapeCasts_S50x1_S50,
    binary main_v104 main_v106 main_v107 (subf : (⟨S50, .f32⟩ : BufTy).Contents (Elt F) → (⟨S50, .f32⟩ : BufTy).Contents (Elt F) → (⟨S50, .f32⟩ : BufTy).Contents (Elt F)),
    unary main_v50 main_v108 ((extractStridedSlice S50x1 ![0, 3] · slices_S50x4_S50x1_0_3) : (⟨S50x4, .f32⟩ : BufTy).Contents (Elt F) → (⟨S50x1, .f32⟩ : BufTy).Contents (Elt F)),
    reshape main_v108 main_v109 (rfl : (.f32 : EltTy) = .f32) shapeCasts_S50x1_S50,
    unary main_v50 main_v110 ((extractStridedSlice S50x1 ![0, 1] · slices_S50x4_S50x1_0_1) : (⟨S50x4, .f32⟩ : BufTy).Contents (Elt F) → (⟨S50x1, .f32⟩ : BufTy).Contents (Elt F)),
    reshape main_v110 main_v111 (rfl : (.f32 : EltTy) = .f32) shapeCasts_S50x1_S50,
    binary main_v109 main_v111 main_v112 (subf : (⟨S50, .f32⟩ : BufTy).Contents (Elt F) → (⟨S50, .f32⟩ : BufTy).Contents (Elt F) → (⟨S50, .f32⟩ : BufTy).Contents (Elt F)),
    binary main_v107 main_v112 main_v113 (mulf : (⟨S50, .f32⟩ : BufTy).Contents (Elt F) → (⟨S50, .f32⟩ : BufTy).Contents (Elt F) → (⟨S50, .f32⟩ : BufTy).Contents (Elt F)),
    unary main_v102 main_v114 (broadcastInDim S240000x1 ![0] bcast_S240000_S240000x1_0 : (⟨S240000, .f32⟩ : BufTy).Contents (Elt F) → (⟨S240000x1, .f32⟩ : BufTy).Contents (Elt F)),
    unary main_v113 main_v115 (broadcastInDim S1x50 ![1] bcast_S50_S1x50_1 : (⟨S50, .f32⟩ : BufTy).Contents (Elt F) → (⟨S1x50, .f32⟩ : BufTy).Contents (Elt F)),
    unary main_v114 main_v116 (broadcastInDim S240000x50 ![0, 1] bcast_S240000x1_S240000x50_0_1 : (⟨S240000x1, .f32⟩ : BufTy).Contents (Elt F) → (⟨S240000x50, .f32⟩ : BufTy).Contents (Elt F)),
    unary main_v115 main_v117 (broadcastInDim S240000x50 ![0, 1] bcast_S1x50_S240000x50_0_1 : (⟨S1x50, .f32⟩ : BufTy).Contents (Elt F) → (⟨S240000x50, .f32⟩ : BufTy).Contents (Elt F)),
    binary main_v116 main_v117 main_v118 (addf : (⟨S240000x50, .f32⟩ : BufTy).Contents (Elt F) → (⟨S240000x50, .f32⟩ : BufTy).Contents (Elt F) → (⟨S240000x50, .f32⟩ : BufTy).Contents (Elt F)),
    binary main_v118 main_v91 main_v119 (subf : (⟨S240000x50, .f32⟩ : BufTy).Contents (Elt F) → (⟨S240000x50, .f32⟩ : BufTy).Contents (Elt F) → (⟨S240000x50, .f32⟩ : BufTy).Contents (Elt F)),
    nullary main_cst_8 (constant S_ .f32 0x358637BD#32),
    unary main_cst_8 main_v120 (broadcastInDim S240000x50 ![] bcast_S_S240000x50 : (⟨S_, .f32⟩ : BufTy).Contents (Elt F) → (⟨S240000x50, .f32⟩ : BufTy).Contents (Elt F)),
    binary main_v119 main_v120 main_v121 (addf : (⟨S240000x50, .f32⟩ : BufTy).Contents (Elt F) → (⟨S240000x50, .f32⟩ : BufTy).Contents (Elt F) → (⟨S240000x50, .f32⟩ : BufTy).Contents (Elt F)),
    binary main_v91 main_v121 main_v122 (Host.divf : (⟨S240000x50, .f32⟩ : BufTy).Contents (Elt F) → (⟨S240000x50, .f32⟩ : BufTy).Contents (Elt F) → (⟨S240000x50, .f32⟩ : BufTy).Contents (Elt F)) ]

/-- Window 4. -/
abbrev w4 : List (HloOp τ sig (Elt F)) :=
  [ nullary main_cst_9 (constant S_ .f32 0xFF800000#32),
    binary main_v122 main_cst_9 main_v123 ((fun x v => Host.reduce FloatOps.maximumf x v reducesTo_S240000x50_S240000_d1 h_S_) : (⟨S240000x50, .f32⟩ : BufTy).Contents (Elt F) → (⟨S_, .f32⟩ : BufTy).Contents (Elt F) → (⟨S240000, .f32⟩ : BufTy).Contents (Elt F)) ] ++
  ops_argmax (.of main_v122) main_call2 ++
  [ nullary main_cst_10 (constant S_ .f32 0x3F19999A#32),
    unary main_cst_10 main_v125 (broadcastInDim S240000 ![] bcast_S_S240000 : (⟨S_, .f32⟩ : BufTy).Contents (Elt F) → (⟨S240000, .f32⟩ : BufTy).Contents (Elt F)),
    binary main_v123 main_v125 main_v126 (cmpf .oge : (⟨S240000, .f32⟩ : BufTy).Contents (Elt F) → (⟨S240000, .f32⟩ : BufTy).Contents (Elt F) → (⟨S240000, .i1⟩ : BufTy).Contents (Elt F)),
    nullary main_cst_11 (constant S_ .f32 0x3ECCCCCD#32),
    unary main_cst_11 main_v127 (broadcastInDim S240000 ![] bcast_S_S240000 : (⟨S_, .f32⟩ : BufTy).Contents (Elt F) → (⟨S240000, .f32⟩ : BufTy).Contents (Elt F)),
    binary main_v123 main_v127 main_v128 (cmpf .ole : (⟨S240000, .f32⟩ : BufTy).Contents (Elt F) → (⟨S240000, .f32⟩ : BufTy).Contents (Elt F) → (⟨S240000, .i1⟩ : BufTy).Contents (Elt F)),
    reshape main_v126 main_v129 (rfl : (.i1 : EltTy) = .i1) shapeCasts_S240000_S6x200x200,
    reshape main_v128 main_v130 (rfl : (.i1 : EltTy) = .i1) shapeCasts_S240000_S6x200x200 ]

/-- Window 5. -/
abbrev w5 : List (HloOp τ sig (Elt F)) :=
  [ unary main_v126 main_v131 (broadcastInDim S240000x1 ![0] bcast_S240000_S240000x1_0 : (⟨S240000, .i1⟩ : BufTy).Contents (Elt F) → (⟨S240000x1, .i1⟩ : BufTy).Contents (Elt F)),
    nullary main_c_12 (constantI S_ 32 0#32),
    unary main_c_12 main_v132 (broadcastInDim S240000 ![] bcast_S_S240000 : (⟨S_, .i32⟩ : BufTy).Contents (Elt F) → (⟨S240000, .i32⟩ : BufTy).Contents (Elt F)),
    binary main_v124 main_v132 main_v133 (cmpi .slt : (⟨S240000, .i32⟩ : BufTy).Contents (Elt F) → (⟨S240000, .i32⟩ : BufTy).Contents (Elt F) → (⟨S240000, .i1⟩ : BufTy).Contents (Elt F)),
    nullary main_c_13 (constantI S_ 32 50#32),
    unary main_c_13 main_v134 (broadcastInDim S240000 ![] bcast_S_S240000 : (⟨S_, .i32⟩ : BufTy).Contents (Elt F) → (⟨S240000, .i32⟩ : BufTy).Contents (Elt F)),
    binary main_v124 main_v134 main_v135 (addi : (⟨S240000, .i32⟩ : BufTy).Contents (Elt F) → (⟨S240000, .i32⟩ : BufTy).Contents (Elt F) → (⟨S240000, .i32⟩ : BufTy).Contents (Elt F)),
    ternary main_v133 main_v135 main_v124 main_v136 (select : (⟨S240000, .i1⟩ : BufTy).Contents (Elt F) → (⟨S240000, .i32⟩ : BufTy).Contents (Elt F) → (⟨S240000, .i32⟩ : BufTy).Contents (Elt F) → (⟨S240000, .i32⟩ : BufTy).Contents (Elt F)),
    unary main_v136 main_v137 (broadcastInDim S240000x1 ![0] bcast_S240000_S240000x1_0 : (⟨S240000, .i32⟩ : BufTy).Contents (Elt F) → (⟨S240000x1, .i32⟩ : BufTy).Contents (Elt F)),
    binary main_arg3 main_v137 main_v138 ((fun x i => Host.gather gather_S50x7_S240000x1_S240000x7_1_0_n_n_0_1_17 x i) : (⟨S50x7, .f32⟩ : BufTy).Contents (Elt F) → (⟨S240000x1, .i32⟩ : BufTy).Contents (Elt F) → (⟨S240000x7, .f32⟩ : BufTy).Contents (Elt F)),
    nullary main_cst_14 (constant S_ .f32 0x00000000#32) ] ++
  ops_where (.of main_v131) (.of main_v138) (.of main_cst_14) main_call3 ++
  [ reshape main_v139 main_v140 (rfl : (.f32 : EltTy) = .f32) shapeCasts_S240000x7_S6x200x200x7 ]

/-- Window 6. -/
abbrev w6 : List (HloOp τ sig (Elt F)) :=
  [ nullary main_c_15 (constantI S_ 32 0#32),
    unary main_c_15 main_v141 (broadcastInDim S240000 ![] bcast_S_S240000 : (⟨S_, .i32⟩ : BufTy).Contents (Elt F) → (⟨S240000, .i32⟩ : BufTy).Contents (Elt F)),
    binary main_v124 main_v141 main_v142 (cmpi .slt : (⟨S240000, .i32⟩ : BufTy).Contents (Elt F) → (⟨S240000, .i32⟩ : BufTy).Contents (Elt F) → (⟨S240000, .i1⟩ : BufTy).Contents (Elt F)),
    nullary main_c_16 (constantI S_ 32 50#32),
    unary main_c_16 main_v143 (broadcastInDim S240000 ![] bcast_S_S240000 : (⟨S_, .i32⟩ : BufTy).Contents (Elt F) → (⟨S240000, .i32⟩ : BufTy).Contents (Elt F)),
    binary main_v124 main_v143 main_v144 (addi : (⟨S240000, .i32⟩ : BufTy).Contents (Elt F) → (⟨S240000, .i32⟩ : BufTy).Contents (Elt F) → (⟨S240000, .i32⟩ : BufTy).Contents (Elt F)),
    ternary main_v142 main_v144 main_v124 main_v145 (select : (⟨S240000, .i1⟩ : BufTy).Contents (Elt F) → (⟨S240000, .i32⟩ : BufTy).Contents (Elt F) → (⟨S240000, .i32⟩ : BufTy).Contents (Elt F) → (⟨S240000, .i32⟩ : BufTy).Contents (Elt F)),
    unary main_v145 main_v146 (broadcastInDim S240000x1 ![0] bcast_S240000_S240000x1_0 : (⟨S240000, .i32⟩ : BufTy).Contents (Elt F) → (⟨S240000x1, .i32⟩ : BufTy).Contents (Elt F)),
    binary main_arg4 main_v146 main_v147 ((fun x i => Host.gather gather_S50_S240000x1_S240000_n_0_n_n_0_1_1 x i) : (⟨S50, .i32⟩ : BufTy).Contents (Elt F) → (⟨S240000x1, .i32⟩ : BufTy).Contents (Elt F) → (⟨S240000, .i32⟩ : BufTy).Contents (Elt F)),
    nullary main_c_17 (constantI S_ 32 0#32) ] ++
  ops_where_0 (.of main_v126) (.of main_v147) (.of main_c_17) main_call4 ++
  [ reshape main_v148 main_v149 (rfl : (.i32 : EltTy) = .i32) shapeCasts_S240000_S6x200x200 ]

/-- Window 7. -/
abbrev w7 : List (HloOp τ sig (Elt F)) :=
  ops_one_hot (.of main_v149) main_call5 ++
  [ unary main_v150 main_v151 ((transpose S6x10x200x200 [0, 3, 1, 2] · transposes_S6x200x200x10_S6x10x200x200_0_3_1_2) : (⟨S6x200x200x10, .f32⟩ : BufTy).Contents (Elt F) → (⟨S6x10x200x200, .f32⟩ : BufTy).Contents (Elt F)),
    unary main_v129 main_v152 (broadcastInDim S6x1x200x200 ![0, 2, 3] bcast_S6x200x200_S6x1x200x200_0_2_3 : (⟨S6x200x200, .i1⟩ : BufTy).Contents (Elt F) → (⟨S6x1x200x200, .i1⟩ : BufTy).Contents (Elt F)),
    unary main_v152 main_v153 (uitofp .f32 : (⟨S6x1x200x200, .i1⟩ : BufTy).Contents (Elt F) → (⟨S6x1x200x200, .f32⟩ : BufTy).Contents (Elt F)),
    unary main_v153 main_v154 (broadcastInDim S6x10x200x200 ![0, 1, 2, 3] bcast_S6x1x200x200_S6x10x200x200_0_1_2_3 : (⟨S6x1x200x200, .f32⟩ : BufTy).Contents (Elt F) → (⟨S6x10x200x200, .f32⟩ : BufTy).Contents (Elt F)),
    binary main_v151 main_v154 main_v155 (mulf : (⟨S6x10x200x200, .f32⟩ : BufTy).Contents (Elt F) → (⟨S6x10x200x200, .f32⟩ : BufTy).Contents (Elt F) → (⟨S6x10x200x200, .f32⟩ : BufTy).Contents (Elt F)) ]

/-- Window 8. -/
abbrev w8 : List (HloOp τ sig (Elt F)) :=
  [ unary main_arg1 main_v156 (Host.negf : (⟨S6x10x200x200, .f32⟩ : BufTy).Contents (Elt F) → (⟨S6x10x200x200, .f32⟩ : BufTy).Contents (Elt F)),
    unary main_v156 main_v157 (Host.exp : (⟨S6x10x200x200, .f32⟩ : BufTy).Contents (Elt F) → (⟨S6x10x200x200, .f32⟩ : BufTy).Contents (Elt F)),
    nullary main_cst_18 (constant S_ .f32 0x3F800000#32),
    unary main_cst_18 main_v158 (broadcastInDim S6x10x200x200 ![] bcast_S_S6x10x200x200 : (⟨S_, .f32⟩ : BufTy).Contents (Elt F) → (⟨S6x10x200x200, .f32⟩ : BufTy).Contents (Elt F)),
    binary main_v158 main_v157 main_v159 (addf : (⟨S6x10x200x200, .f32⟩ : BufTy).Contents (Elt F) → (⟨S6x10x200x200, .f32⟩ : BufTy).Contents (Elt F) → (⟨S6x10x200x200, .f32⟩ : BufTy).Contents (Elt F)),
    nullary main_cst_19 (constant S_ .f32 0x3F800000#32),
    unary main_cst_19 main_v160 (broadcastInDim S6x10x200x200 ![] bcast_S_S6x10x200x200 : (⟨S_, .f32⟩ : BufTy).Contents (Elt F) → (⟨S6x10x200x200, .f32⟩ : BufTy).Contents (Elt F)),
    binary main_v160 main_v159 main_v161 (Host.divf : (⟨S6x10x200x200, .f32⟩ : BufTy).Contents (Elt F) → (⟨S6x10x200x200, .f32⟩ : BufTy).Contents (Elt F) → (⟨S6x10x200x200, .f32⟩ : BufTy).Contents (Elt F)),
    nullary main_cst_20 (constant S_ .f32 0x00000000#32),
    unary main_cst_20 main_v162 (broadcastInDim S6x10x200x200 ![] bcast_S_S6x10x200x200 : (⟨S_, .f32⟩ : BufTy).Contents (Elt F) → (⟨S6x10x200x200, .f32⟩ : BufTy).Contents (Elt F)),
    binary main_arg1 main_v162 main_v163 (maximumf : (⟨S6x10x200x200, .f32⟩ : BufTy).Contents (Elt F) → (⟨S6x10x200x200, .f32⟩ : BufTy).Contents (Elt F) → (⟨S6x10x200x200, .f32⟩ : BufTy).Contents (Elt F)),
    binary main_arg1 main_v155 main_v164 (mulf : (⟨S6x10x200x200, .f32⟩ : BufTy).Contents (Elt F) → (⟨S6x10x200x200, .f32⟩ : BufTy).Contents (Elt F) → (⟨S6x10x200x200, .f32⟩ : BufTy).Contents (Elt F)),
    binary main_v163 main_v164 main_v165 (subf : (⟨S6x10x200x200, .f32⟩ : BufTy).Contents (Elt F) → (⟨S6x10x200x200, .f32⟩ : BufTy).Contents (Elt F) → (⟨S6x10x200x200, .f32⟩ : BufTy).Contents (Elt F)),
    unary main_arg1 main_v166 (Host.absf : (⟨S6x10x200x200, .f32⟩ : BufTy).Contents (Elt F) → (⟨S6x10x200x200, .f32⟩ : BufTy).Contents (Elt F)),
    unary main_v166 main_v167 (Host.negf : (⟨S6x10x200x200, .f32⟩ : BufTy).Contents (Elt F) → (⟨S6x10x200x200, .f32⟩ : BufTy).Contents (Elt F)),
    unary main_v167 main_v168 (Host.exp : (⟨S6x10x200x200, .f32⟩ : BufTy).Contents (Elt F) → (⟨S6x10x200x200, .f32⟩ : BufTy).Contents (Elt F)),
    unary main_v168 main_v169 (Host.log1p : (⟨S6x10x200x200, .f32⟩ : BufTy).Contents (Elt F) → (⟨S6x10x200x200, .f32⟩ : BufTy).Contents (Elt F)),
    binary main_v165 main_v169 main_v170 (addf : (⟨S6x10x200x200, .f32⟩ : BufTy).Contents (Elt F) → (⟨S6x10x200x200, .f32⟩ : BufTy).Contents (Elt F) → (⟨S6x10x200x200, .f32⟩ : BufTy).Contents (Elt F)) ]

/-- Window 9. -/
abbrev w9 : List (HloOp τ sig (Elt F)) :=
  [ nullary main_cst_21 (constant S_ .f32 0x3F800000#32),
    unary main_cst_21 main_v171 (broadcastInDim S6x10x200x200 ![] bcast_S_S6x10x200x200 : (⟨S_, .f32⟩ : BufTy).Contents (Elt F) → (⟨S6x10x200x200, .f32⟩ : BufTy).Contents (Elt F)),
    binary main_v155 main_v171 main_v172 (cmpf .oeq : (⟨S6x10x200x200, .f32⟩ : BufTy).Contents (Elt F) → (⟨S6x10x200x200, .f32⟩ : BufTy).Contents (Elt F) → (⟨S6x10x200x200, .i1⟩ : BufTy).Contents (Elt F)),
    nullary main_cst_22 (constant S_ .f32 0x3F800000#32),
    unary main_cst_22 main_v173 (broadcastInDim S6x10x200x200 ![] bcast_S_S6x10x200x200 : (⟨S_, .f32⟩ : BufTy).Contents (Elt F) → (⟨S6x10x200x200, .f32⟩ : BufTy).Contents (Elt F)),
    binary main_v173 main_v161 main_v174 (subf : (⟨S6x10x200x200, .f32⟩ : BufTy).Contents (Elt F) → (⟨S6x10x200x200, .f32⟩ : BufTy).Contents (Elt F) → (⟨S6x10x200x200, .f32⟩ : BufTy).Contents (Elt F)) ] ++
  ops_where_1 (.of main_v172) (.of main_v161) (.of main_v174) main_call6 ++
  [ nullary main_cst_23 (constant S_ .f32 0x3F800000#32),
    unary main_cst_23 main_v176 (broadcastInDim S6x10x200x200 ![] bcast_S_S6x10x200x200 : (⟨S_, .f32⟩ : BufTy).Contents (Elt F) → (⟨S6x10x200x200, .f32⟩ : BufTy).Contents (Elt F)),
    binary main_v155 main_v176 main_v177 (cmpf .oeq : (⟨S6x10x200x200, .f32⟩ : BufTy).Contents (Elt F) → (⟨S6x10x200x200, .f32⟩ : BufTy).Contents (Elt F) → (⟨S6x10x200x200, .i1⟩ : BufTy).Contents (Elt F)),
    nullary main_cst_24 (constant S_ .f32 0x3E800000#32),
    nullary main_cst_25 (constant S_ .f32 0x3F400000#32) ] ++
  ops_where_2 (.of main_v177) (.of main_cst_24) (.of main_cst_25) main_call7 ++
  [ nullary main_cst_26 (constant S_ .f32 0x3F800000#32),
    unary main_cst_26 main_v179 (broadcastInDim S6x10x200x200 ![] bcast_S_S6x10x200x200 : (⟨S_, .f32⟩ : BufTy).Contents (Elt F) → (⟨S6x10x200x200, .f32⟩ : BufTy).Contents (Elt F)),
    binary main_v179 main_v175 main_v180 (subf : (⟨S6x10x200x200, .f32⟩ : BufTy).Contents (Elt F) → (⟨S6x10x200x200, .f32⟩ : BufTy).Contents (Elt F) → (⟨S6x10x200x200, .f32⟩ : BufTy).Contents (Elt F)),
    nullary main_cst_27 (constant S_ .f32 0x40000000#32),
    unary main_cst_27 main_v181 (broadcastInDim S6x10x200x200 ![] bcast_S_S6x10x200x200 : (⟨S_, .f32⟩ : BufTy).Contents (Elt F) → (⟨S6x10x200x200, .f32⟩ : BufTy).Contents (Elt F)),
    binary main_v180 main_v181 main_v182 (Host.powf : (⟨S6x10x200x200, .f32⟩ : BufTy).Contents (Elt F) → (⟨S6x10x200x200, .f32⟩ : BufTy).Contents (Elt F) → (⟨S6x10x200x200, .f32⟩ : BufTy).Contents (Elt F)),
    unary main_v178 main_v183 (id : (⟨S6x10x200x200, .f32⟩ : BufTy).Contents (Elt F) → (⟨S6x10x200x200, .f32⟩ : BufTy).Contents (Elt F)),
    binary main_v183 main_v182 main_v184 (mulf : (⟨S6x10x200x200, .f32⟩ : BufTy).Contents (Elt F) → (⟨S6x10x200x200, .f32⟩ : BufTy).Contents (Elt F) → (⟨S6x10x200x200, .f32⟩ : BufTy).Contents (Elt F)),
    binary main_v184 main_v170 main_v185 (mulf : (⟨S6x10x200x200, .f32⟩ : BufTy).Contents (Elt F) → (⟨S6x10x200x200, .f32⟩ : BufTy).Contents (Elt F) → (⟨S6x10x200x200, .f32⟩ : BufTy).Contents (Elt F)) ]

/-- Window 10. -/
abbrev w10 : List (HloOp τ sig (Elt F)) :=
  [ binary main_v129 main_v130 main_v186 (ori : (⟨S6x200x200, .i1⟩ : BufTy).Contents (Elt F) → (⟨S6x200x200, .i1⟩ : BufTy).Contents (Elt F) → (⟨S6x200x200, .i1⟩ : BufTy).Contents (Elt F)),
    unary main_v186 main_v187 (broadcastInDim S6x1x200x200 ![0, 2, 3] bcast_S6x200x200_S6x1x200x200_0_2_3 : (⟨S6x200x200, .i1⟩ : BufTy).Contents (Elt F) → (⟨S6x1x200x200, .i1⟩ : BufTy).Contents (Elt F)),
    unary main_v187 main_v188 (uitofp .f32 : (⟨S6x1x200x200, .i1⟩ : BufTy).Contents (Elt F) → (⟨S6x1x200x200, .f32⟩ : BufTy).Contents (Elt F)),
    unary main_v188 main_v189 (broadcastInDim S6x10x200x200 ![0, 1, 2, 3] bcast_S6x1x200x200_S6x10x200x200_0_1_2_3 : (⟨S6x1x200x200, .f32⟩ : BufTy).Contents (Elt F) → (⟨S6x10x200x200, .f32⟩ : BufTy).Contents (Elt F)),
    binary main_v185 main_v189 main_v190 (mulf : (⟨S6x10x200x200, .f32⟩ : BufTy).Contents (Elt F) → (⟨S6x10x200x200, .f32⟩ : BufTy).Contents (Elt F) → (⟨S6x10x200x200, .f32⟩ : BufTy).Contents (Elt F)),
    nullary main_cst_28 (constant S_ .f32 0x00000000#32),
    binary main_v190 main_cst_28 main_v191 ((fun x v => Host.reduceAdd x v reducesTo_S6x10x200x200_S_d0_1_2_3 h_S_) : (⟨S6x10x200x200, .f32⟩ : BufTy).Contents (Elt F) → (⟨S_, .f32⟩ : BufTy).Contents (Elt F) → (⟨S_, .f32⟩ : BufTy).Contents (Elt F)),
    unary main_v187 main_v192 ((extui 32 · natLt_1_32) : (⟨S6x1x200x200, .i1⟩ : BufTy).Contents (Elt F) → (⟨S6x1x200x200, .i32⟩ : BufTy).Contents (Elt F)),
    nullary main_c_29 (constantI S_ 32 0#32),
    binary main_v192 main_c_29 main_v193 ((fun x v => Host.reduce IntOp.addi x v reducesTo_S6x1x200x200_S_d0_1_2_3 h_S_) : (⟨S6x1x200x200, .i32⟩ : BufTy).Contents (Elt F) → (⟨S_, .i32⟩ : BufTy).Contents (Elt F) → (⟨S_, .i32⟩ : BufTy).Contents (Elt F)),
    unary main_v193 main_v194 (sitofp .f32 : (⟨S_, .i32⟩ : BufTy).Contents (Elt F) → (⟨S_, .f32⟩ : BufTy).Contents (Elt F)),
    nullary main_cst_30 (constant S_ .f32 0x358637BD#32),
    binary main_v194 main_cst_30 main_v195 (addf : (⟨S_, .f32⟩ : BufTy).Contents (Elt F) → (⟨S_, .f32⟩ : BufTy).Contents (Elt F) → (⟨S_, .f32⟩ : BufTy).Contents (Elt F)),
    unary main_v195 main_v196 (id : (⟨S_, .f32⟩ : BufTy).Contents (Elt F) → (⟨S_, .f32⟩ : BufTy).Contents (Elt F)),
    binary main_v191 main_v196 main_v197 (Host.divf : (⟨S_, .f32⟩ : BufTy).Contents (Elt F) → (⟨S_, .f32⟩ : BufTy).Contents (Elt F) → (⟨S_, .f32⟩ : BufTy).Contents (Elt F)) ]

/-- Window 11. -/
abbrev w11 : List (HloOp τ sig (Elt F)) :=
  [ binary main_arg0 main_v140 main_v198 (subf : (⟨S6x200x200x7, .f32⟩ : BufTy).Contents (Elt F) → (⟨S6x200x200x7, .f32⟩ : BufTy).Contents (Elt F) → (⟨S6x200x200x7, .f32⟩ : BufTy).Contents (Elt F)),
    unary main_v198 main_v199 (Host.absf : (⟨S6x200x200x7, .f32⟩ : BufTy).Contents (Elt F) → (⟨S6x200x200x7, .f32⟩ : BufTy).Contents (Elt F)),
    nullary main_cst_31 (constant S_ .f32 0x3F800000#32),
    unary main_cst_31 main_v200 (broadcastInDim S6x200x200x7 ![] bcast_S_S6x200x200x7 : (⟨S_, .f32⟩ : BufTy).Contents (Elt F) → (⟨S6x200x200x7, .f32⟩ : BufTy).Contents (Elt F)),
    binary main_v199 main_v200 main_v201 (cmpf .olt : (⟨S6x200x200x7, .f32⟩ : BufTy).Contents (Elt F) → (⟨S6x200x200x7, .f32⟩ : BufTy).Contents (Elt F) → (⟨S6x200x200x7, .i1⟩ : BufTy).Contents (Elt F)),
    nullary main_cst_32 (constant S_ .f32 0x3F000000#32),
    unary main_cst_32 main_v202 (broadcastInDim S6x200x200x7 ![] bcast_S_S6x200x200x7 : (⟨S_, .f32⟩ : BufTy).Contents (Elt F) → (⟨S6x200x200x7, .f32⟩ : BufTy).Contents (Elt F)),
    binary main_v202 main_v198 main_v203 (mulf : (⟨S6x200x200x7, .f32⟩ : BufTy).Contents (Elt F) → (⟨S6x200x200x7, .f32⟩ : BufTy).Contents (Elt F) → (⟨S6x200x200x7, .f32⟩ : BufTy).Contents (Elt F)),
    binary main_v203 main_v198 main_v204 (mulf : (⟨S6x200x200x7, .f32⟩ : BufTy).Contents (Elt F) → (⟨S6x200x200x7, .f32⟩ : BufTy).Contents (Elt F) → (⟨S6x200x200x7, .f32⟩ : BufTy).Contents (Elt F)),
    unary main_v198 main_v205 (Host.absf : (⟨S6x200x200x7, .f32⟩ : BufTy).Contents (Elt F) → (⟨S6x200x200x7, .f32⟩ : BufTy).Contents (Elt F)),
    nullary main_cst_33 (constant S_ .f32 0x3F000000#32),
    unary main_cst_33 main_v206 (broadcastInDim S6x200x200x7 ![] bcast_S_S6x200x200x7 : (⟨S_, .f32⟩ : BufTy).Contents (Elt F) → (⟨S6x200x200x7, .f32⟩ : BufTy).Contents (Elt F)),
    binary main_v205 main_v206 main_v207 (subf : (⟨S6x200x200x7, .f32⟩ : BufTy).Contents (Elt F) → (⟨S6x200x200x7, .f32⟩ : BufTy).Contents (Elt F) → (⟨S6x200x200x7, .f32⟩ : BufTy).Contents (Elt F)) ] ++
  ops_where_3 (.of main_v201) (.of main_v204) (.of main_v207) main_call8

/-- Window 12. -/
abbrev w12 : List (HloOp τ sig (Elt F)) :=
  [ unary main_v129 main_v209 (broadcastInDim S6x200x200x1 ![0, 1, 2] bcast_S6x200x200_S6x200x200x1_0_1_2 : (⟨S6x200x200, .i1⟩ : BufTy).Contents (Elt F) → (⟨S6x200x200x1, .i1⟩ : BufTy).Contents (Elt F)),
    unary main_v209 main_v210 (uitofp .f32 : (⟨S6x200x200x1, .i1⟩ : BufTy).Contents (Elt F) → (⟨S6x200x200x1, .f32⟩ : BufTy).Contents (Elt F)),
    unary main_v129 main_v211 ((extui 32 · natLt_1_32) : (⟨S6x200x200, .i1⟩ : BufTy).Contents (Elt F) → (⟨S6x200x200, .i32⟩ : BufTy).Contents (Elt F)),
    nullary main_c_34 (constantI S_ 32 0#32),
    binary main_v211 main_c_34 main_v212 ((fun x v => Host.reduce IntOp.addi x v reducesTo_S6x200x200_S_d0_1_2 h_S_) : (⟨S6x200x200, .i32⟩ : BufTy).Contents (Elt F) → (⟨S_, .i32⟩ : BufTy).Contents (Elt F) → (⟨S_, .i32⟩ : BufTy).Contents (Elt F)),
    nullary main_c_35 (constantI S_ 32 0#32),
    binary main_v212 main_c_35 main_v213 (cmpi .sgt : (⟨S_, .i32⟩ : BufTy).Contents (Elt F) → (⟨S_, .i32⟩ : BufTy).Contents (Elt F) → (⟨S_, .i1⟩ : BufTy).Contents (Elt F)),
    unary main_v210 main_v214 (broadcastInDim S6x200x200x7 ![0, 1, 2, 3] bcast_S6x200x200x1_S6x200x200x7_0_1_2_3 : (⟨S6x200x200x1, .f32⟩ : BufTy).Contents (Elt F) → (⟨S6x200x200x7, .f32⟩ : BufTy).Contents (Elt F)),
    binary main_v208 main_v214 main_v215 (mulf : (⟨S6x200x200x7, .f32⟩ : BufTy).Contents (Elt F) → (⟨S6x200x200x7, .f32⟩ : BufTy).Contents (Elt F) → (⟨S6x200x200x7, .f32⟩ : BufTy).Contents (Elt F)),
    nullary main_cst_36 (constant S_ .f32 0x00000000#32),
    binary main_v215 main_cst_36 main_v216 ((fun x v => Host.reduceAdd x v reducesTo_S6x200x200x7_S_d0_1_2_3 h_S_) : (⟨S6x200x200x7, .f32⟩ : BufTy).Contents (Elt F) → (⟨S_, .f32⟩ : BufTy).Contents (Elt F) → (⟨S_, .f32⟩ : BufTy).Contents (Elt F)),
    nullary main_c_37 (constantI S_ 32 7#32),
    binary main_v212 main_c_37 main_v217 (muli : (⟨S_, .i32⟩ : BufTy).Contents (Elt F) → (⟨S_, .i32⟩ : BufTy).Contents (Elt F) → (⟨S_, .i32⟩ : BufTy).Contents (Elt F)),
    nullary main_c_38 (constantI S_ 32 1#32),
    binary main_v217 main_c_38 main_v218 (maxsi : (⟨S_, .i32⟩ : BufTy).Contents (Elt F) → (⟨S_, .i32⟩ : BufTy).Contents (Elt F) → (⟨S_, .i32⟩ : BufTy).Contents (Elt F)),
    unary main_v218 main_v219 (sitofp .f32 : (⟨S_, .i32⟩ : BufTy).Contents (Elt F) → (⟨S_, .f32⟩ : BufTy).Contents (Elt F)),
    binary main_v216 main_v219 main_v220 (Host.divf : (⟨S_, .f32⟩ : BufTy).Contents (Elt F) → (⟨S_, .f32⟩ : BufTy).Contents (Elt F) → (⟨S_, .f32⟩ : BufTy).Contents (Elt F)),
    nullary main_cst_39 (constant S_ .f32 0x00000000#32) ] ++
  ops_where_4 (.of main_v213) (.of main_v220) (.of main_cst_39) main_call9

/-- Window 13. -/
abbrev w13 : List (HloOp τ sig (Elt F)) :=
  [ unary main_v129 main_v222 (uitofp .f32 : (⟨S6x200x200, .i1⟩ : BufTy).Contents (Elt F) → (⟨S6x200x200, .f32⟩ : BufTy).Contents (Elt F)),
    binary main_v129 main_v130 main_v223 (ori : (⟨S6x200x200, .i1⟩ : BufTy).Contents (Elt F) → (⟨S6x200x200, .i1⟩ : BufTy).Contents (Elt F) → (⟨S6x200x200, .i1⟩ : BufTy).Contents (Elt F)),
    nullary main_cst_40 (constant S_ .f32 0x00000000#32),
    unary main_cst_40 main_v224 (broadcastInDim S6x200x200 ![] bcast_S_S6x200x200 : (⟨S_, .f32⟩ : BufTy).Contents (Elt F) → (⟨S6x200x200, .f32⟩ : BufTy).Contents (Elt F)),
    binary main_arg2 main_v224 main_v225 (maximumf : (⟨S6x200x200, .f32⟩ : BufTy).Contents (Elt F) → (⟨S6x200x200, .f32⟩ : BufTy).Contents (Elt F) → (⟨S6x200x200, .f32⟩ : BufTy).Contents (Elt F)),
    binary main_arg2 main_v222 main_v226 (mulf : (⟨S6x200x200, .f32⟩ : BufTy).Contents (Elt F) → (⟨S6x200x200, .f32⟩ : BufTy).Contents (Elt F) → (⟨S6x200x200, .f32⟩ : BufTy).Contents (Elt F)),
    binary main_v225 main_v226 main_v227 (subf : (⟨S6x200x200, .f32⟩ : BufTy).Contents (Elt F) → (⟨S6x200x200, .f32⟩ : BufTy).Contents (Elt F) → (⟨S6x200x200, .f32⟩ : BufTy).Contents (Elt F)),
    unary main_arg2 main_v228 (Host.absf : (⟨S6x200x200, .f32⟩ : BufTy).Contents (Elt F) → (⟨S6x200x200, .f32⟩ : BufTy).Contents (Elt F)),
    unary main_v228 main_v229 (Host.negf : (⟨S6x200x200, .f32⟩ : BufTy).Contents (Elt F) → (⟨S6x200x200, .f32⟩ : BufTy).Contents (Elt F)),
    unary main_v229 main_v230 (Host.exp : (⟨S6x200x200, .f32⟩ : BufTy).Contents (Elt F) → (⟨S6x200x200, .f32⟩ : BufTy).Contents (Elt F)),
    unary main_v230 main_v231 (Host.log1p : (⟨S6x200x200, .f32⟩ : BufTy).Contents (Elt F) → (⟨S6x200x200, .f32⟩ : BufTy).Contents (Elt F)),
    binary main_v227 main_v231 main_v232 (addf : (⟨S6x200x200, .f32⟩ : BufTy).Contents (Elt F) → (⟨S6x200x200, .f32⟩ : BufTy).Contents (Elt F) → (⟨S6x200x200, .f32⟩ : BufTy).Contents (Elt F)) ]

/-- Window 14. -/
abbrev w14 : List (HloOp τ sig (Elt F)) :=
  [ unary main_v223 main_v233 ((extui 32 · natLt_1_32) : (⟨S6x200x200, .i1⟩ : BufTy).Contents (Elt F) → (⟨S6x200x200, .i32⟩ : BufTy).Contents (Elt F)),
    nullary main_c_41 (constantI S_ 32 0#32),
    binary main_v233 main_c_41 main_v234 ((fun x v => Host.reduce IntOp.addi x v reducesTo_S6x200x200_S_d0_1_2 h_S_) : (⟨S6x200x200, .i32⟩ : BufTy).Contents (Elt F) → (⟨S_, .i32⟩ : BufTy).Contents (Elt F) → (⟨S_, .i32⟩ : BufTy).Contents (Elt F)),
    nullary main_c_42 (constantI S_ 32 0#32),
    binary main_v234 main_c_42 main_v235 (cmpi .sgt : (⟨S_, .i32⟩ : BufTy).Contents (Elt F) → (⟨S_, .i32⟩ : BufTy).Contents (Elt F) → (⟨S_, .i1⟩ : BufTy).Contents (Elt F)),
    unary main_v223 main_v236 (uitofp .f32 : (⟨S6x200x200, .i1⟩ : BufTy).Contents (Elt F) → (⟨S6x200x200, .f32⟩ : BufTy).Contents (Elt F)),
    binary main_v232 main_v236 main_v237 (mulf : (⟨S6x200x200, .f32⟩ : BufTy).Contents (Elt F) → (⟨S6x200x200, .f32⟩ : BufTy).Contents (Elt F) → (⟨S6x200x200, .f32⟩ : BufTy).Contents (Elt F)),
    nullary main_cst_43 (constant S_ .f32 0x00000000#32),
    binary main_v237 main_cst_43 main_v238 ((fun x v => Host.reduceAdd x v reducesTo_S6x200x200_S_d0_1_2 h_S_) : (⟨S6x200x200, .f32⟩ : BufTy).Contents (Elt F) → (⟨S_, .f32⟩ : BufTy).Contents (Elt F) → (⟨S_, .f32⟩ : BufTy).Contents (Elt F)),
    nullary main_c_44 (constantI S_ 32 1#32),
    binary main_v234 main_c_44 main_v239 (maxsi : (⟨S_, .i32⟩ : BufTy).Contents (Elt F) → (⟨S_, .i32⟩ : BufTy).Contents (Elt F) → (⟨S_, .i32⟩ : BufTy).Contents (Elt F)),
    unary main_v239 main_v240 (sitofp .f32 : (⟨S_, .i32⟩ : BufTy).Contents (Elt F) → (⟨S_, .f32⟩ : BufTy).Contents (Elt F)),
    binary main_v238 main_v240 main_v241 (Host.divf : (⟨S_, .f32⟩ : BufTy).Contents (Elt F) → (⟨S_, .f32⟩ : BufTy).Contents (Elt F) → (⟨S_, .f32⟩ : BufTy).Contents (Elt F)),
    nullary main_cst_45 (constant S_ .f32 0x00000000#32) ] ++
  ops_where_4 (.of main_v235) (.of main_v241) (.of main_cst_45) main_call10

/-- Window 15. -/
abbrev w15 : List (HloOp τ sig (Elt F)) :=
  [ nullary main_cst_46 (constant S_ .f32 0x3F800000#32),
    binary main_cst_46 main_v197 main_v243 (mulf : (⟨S_, .f32⟩ : BufTy).Contents (Elt F) → (⟨S_, .f32⟩ : BufTy).Contents (Elt F) → (⟨S_, .f32⟩ : BufTy).Contents (Elt F)),
    nullary main_cst_47 (constant S_ .f32 0x40000000#32),
    binary main_cst_47 main_v221 main_v244 (mulf : (⟨S_, .f32⟩ : BufTy).Contents (Elt F) → (⟨S_, .f32⟩ : BufTy).Contents (Elt F) → (⟨S_, .f32⟩ : BufTy).Contents (Elt F)),
    binary main_v243 main_v244 main_v245 (addf : (⟨S_, .f32⟩ : BufTy).Contents (Elt F) → (⟨S_, .f32⟩ : BufTy).Contents (Elt F) → (⟨S_, .f32⟩ : BufTy).Contents (Elt F)),
    nullary main_cst_48 (constant S_ .f32 0x3F800000#32),
    binary main_cst_48 main_v242 main_v246 (mulf : (⟨S_, .f32⟩ : BufTy).Contents (Elt F) → (⟨S_, .f32⟩ : BufTy).Contents (Elt F) → (⟨S_, .f32⟩ : BufTy).Contents (Elt F)),
    binary main_v245 main_v246 main_v247 (addf : (⟨S_, .f32⟩ : BufTy).Contents (Elt F) → (⟨S_, .f32⟩ : BufTy).Contents (Elt F) → (⟨S_, .f32⟩ : BufTy).Contents (Elt F)) ]

/-- All of them. -/
abbrev ops : List (HloOp τ sig (Elt F)) :=
  w0 ++ (w1 ++ (w2 ++ (w3 ++ (w4 ++ (w5 ++ (w6 ++ (w7 ++ (w8 ++ (w9 ++ (w10 ++ (w11 ++ (w12 ++ (w13 ++ (w14 ++ (w15)))))))))))))))

set_option maxHeartbeats 4000000 in
theorem main_eq (c : Dev nD) : main (F := F) c = seq ops := by sl_kernel_rfl

theorem scopedRefs_eq : (Finset.univ.filter fun b : Ref sig .tc => b.isScoped) = ∅ := by decide
theorem scopedSems_eq : (Finset.univ.filter fun sm : SemLoc sig => sm.isScoped .tc) = ∅ := by decide

/-- A list's operations stay among the TensorCore's buffers and allocate nothing. -/
abbrev Ok (l : List (HloOp τ sig (Elt F))) : Prop := l.Forall fun op => op.bufs ⊆ tcRefs τ sig ∧ op.fresh = ∅

theorem Ok.append {l k : List (HloOp τ sig (Elt F))} (h : Ok l) (h' : Ok k) : Ok (l ++ k) := (List.forall_append ..).mpr ⟨h, h'⟩

theorem ok : Ok (ops (F := F)) := by
  refine .append ?_ (.append ?_ (.append ?_ (.append ?_ (.append ?_ (.append ?_ (.append ?_ (.append ?_ (.append ?_ (.append ?_ (.append ?_ (.append ?_ (.append ?_ (.append ?_ (.append ?_ (?_)))))))))))))))
  all_goals
    simp only [Ok, List.cons_append, List.nil_append, List.Forall, TRef.unary, TRef.binary, TRef.nullary, TRef.ternary, TRef.quaternary]
    repeat' apply And.intro
    all_goals first
      | with_reducible exact unary_bufs_sub ..
      | with_reducible exact binary_bufs_sub ..
      | with_reducible exact nullary_bufs_sub ..
      | with_reducible exact reshape_bufs_sub ..
      | with_reducible exact ternary_bufs_sub ..
      | with_reducible exact quaternary_bufs_sub ..
      | with_reducible exact nary_bufs_sub ..
      | rfl

theorem ops_sub : (ops : List (HloOp τ sig (Elt F))).Forall fun op => op.bufs ⊆ tcRefs τ sig :=
  List.forall_iff_forall_mem.mpr fun op h => (List.forall_iff_forall_mem.mp ok op h).1

theorem ops_fresh : ∀ op ∈ (ops : List (HloOp τ sig (Elt F))), op.fresh = ∅ :=
  fun op h => (List.forall_iff_forall_mem.mp ok op h).2

/-- The reference runs to its operations' results. -/
theorem run (m : (ℓ : Loc nD τ sig) → Buf (Elt F) ℓ) (ρ : Dev nD → PrngReg) :
    θ_run defs (onTc (τ := τ) (main (F := F))) ⟨m, fun _ => 0, ρ⟩ (fun r =>
      ∀ (d : Dev nD) (b : Ref sig .tc), r.2.mem ((d.tc : Thread nD τ).loc b) = after ops (launchContents m d) (Proc.devRef .tc b)) :=
  run_seq scopedRefs_eq scopedSems_eq defs main (fun _ => ops) main_eq (fun _ => ops_sub) m ρ fun _ => ops_fresh

end Cert.ReferenceIdeal.Steps

end
-- ==== Proof.Ref.Kept.lean ====
/- The reference leaves its five arguments as they were. -/
module

public import proofs.«01_k».proof.Proof.Ref.Ops
public import Idealize.ShloMosaic.Lib.Tactic
public import Idealize.ShloMosaic.Adequacy
public import Idealize.ShloMosaic.Init

@[expose] public section

set_option maxRecDepth 16384

noncomputable section

namespace Cert.ReferenceIdeal.Steps

open Cert.ReferenceIdeal Cert.ReferenceIdeal.Gen Idealize.ShloMosaic Idealize.ShloMosaic.TcCoe Idealize.ShloMosaic.Tactic
open Idealize.SL.Sem Idealize.ShloMosaic.StableHlo

variable {F : FTy → Type} [FloatOps F]

/-- No operation writes an argument. -/
theorem kept (W : Valuation τ sig (Elt F)) : after ops W (Proc.devRef .tc main_arg0) = W (Proc.devRef .tc main_arg0)
    ∧ after ops W (Proc.devRef .tc main_arg1) = W (Proc.devRef .tc main_arg1) ∧ after ops W (Proc.devRef .tc main_arg2) = W (Proc.devRef .tc main_arg2)
    ∧ after ops W (Proc.devRef .tc main_arg3) = W (Proc.devRef .tc main_arg3) ∧ after ops W (Proc.devRef .tc main_arg4) = W (Proc.devRef .tc main_arg4) := by
  refine ⟨?_, ?_, ?_, ?_, ?_⟩ <;> sl_kernel_rfl

/-- The reference terminates, its arguments unchanged and every counter at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => by
    refine ⟨fun c => ?_, sem_eq_zero_of_no_sems (by decide) r.2⟩
    obtain ⟨k0, k1, k2, k3, k4⟩ := kept (launchContents m c)
    exact ⟨(h c main_arg0).trans k0, (h c main_arg1).trans k1, (h c main_arg2).trans k2, (h c main_arg3).trans k3, (h c main_arg4).trans k4⟩) (run m ρ)

end Cert.ReferenceIdeal.Steps
-- ==== Proof.Ideal.Final.lean ====
/- What the kernel's result array ends holding, and the four results cut from it. -/
module

public import proofs.«01_k».proof.Proof.Ideal.Track
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F]
variable (m : (ℓ : Loc nD τ sig) → Buf (Elt F) ℓ) (ρ : Dev nD → PrngReg)

/-- The last point. -/
def last : Fin cfg0.N := ⟨29, by rw [show cfg0.N = 30 from N_0]; decide⟩

/-- The result array at the end. -/
abbrev result (c : Dev nD) : Buf (Elt F) ((c : Thread nD τ).loc main_v7) := out4 (outOf (sums m c 29))

theorem idx5 : ∀ a : Fin 1, win0_5.index last a = 0 := by decide +kernel
theorem size5 : win0_5.size 0 = 4 := by decide +kernel
theorem xsize5 : win0_5.xsize (grid0.coords last) 0 = 4 := by decide +kernel

/-- The one write-back writes it. -/
theorem flushed_eq (c : Dev nD) (t : Fin cfg0.N) (hf : (cfg0.win 5).flush t = true) :
    (dats m 0 c).flushed 5 t = ((cfg0.win 5).blk t).view.read (Elt F) (result m c) := by
  have hN : cfg0.N = 30 := N_0
  have h3 : t.val = 29 := by have := (flush0_5 t).mp hf; have := t.isLt; omega
  obtain rfl : t = last := Fin.ext h3
  show (cfg0.win 5).cut (grid0.coords last) ((dats m 0 c).after 5 last) = _
  rw [after0_5]
  have hz' : (fun a => win0_5.index last a * main_v7.ty.shape.size a) = fun _ => 0 := funext fun a => by
    rw [idx5 a]; exact Nat.zero_mul _
  exact (Memref.read_access_unit_zero (Elt F) main_v7 hz' (fun a => by rw [congrFun hz' a]; simp) (result m c)).symm

/-- So the array ends holding it. -/
theorem final_5 (c : Dev nD) : (dats m 0 c).arrAt 5 cfg0.N = result m c :=
  (dats m 0 c).arrAt_eq_of_cover 5 (result m c) (flushed_eq m c) fun i =>
    ⟨last, (flush0_5 last).mpr rfl, by
      show i ∈ ((View.whole main_v7).slice (win0_5.rect last)).set
      rw [View.set_slice_whole, Rect.mem_set_unit]
      intro a
      have h0 : (i 0 : Nat) < 4 := (i 0).isLt
      match a with
      | ⟨0, _⟩ =>
        show win0_5.index last 0 * win0_5.size 0 ≤ (i 0 : Nat) ∧ (i 0 : Nat) < win0_5.index last 0 * win0_5.size 0 + win0_5.xsize (grid0.coords last) 0
        rw [idx5 0, xsize5]; omega⟩

/-- The array the tail starts from. -/
theorem start_5 (c : Dev nD) : Pipeline.withArrays (cfgs 0).spec c (V0 m c) (fun w => (dats m 0 c).arrAt w (cfgs 0).N) (Proc.devRef .tc main_v7)
    = result m c :=
  (Pipeline.withArrays_arr spec0 (by decide) c (V0 m c) (fun w => (dats m 0 c).arrAt w (cfgs 0).N) 5).trans (final_5 m c)

/-- One entry of four. -/
def cell (v : Vec F S4 .f32) (o : Fin 1 → ℕ) (h : S4.Slices o S1) : Vec F S_ .f32 :=
  shapeCast S_ (extractStridedSlice S1 o v h) shapeCasts_S1_S_

theorem one_index (p q : S1.Idx) : p = q := funext fun a => Fin.ext (by
  have h1 : ∀ a : Fin 1, S1.size a = 1 := by decide
  have := (p a).isLt; have := (q a).isLt; have := h1 a; omega)
/-- One entry of four, read. -/
theorem cell_at (v : ℕ → F .f32) (o : ℕ) (h : S4.Slices ![o] S1) (j : S_.Idx) : cell (out4 v) ![o] h j = v o := by
  have e (x : Vec F S1 .f32) : shapeCast S_ x shapeCasts_S1_S_ j = x (ix1 (0 : Fin 1)) := congrArg x (one_index _ _)
  unfold cell
  rw [e]
  rfl

/-- The tail's four results from the array it starts from. -/
theorem tail_0 (Z : Valuation τ sig (Elt F)) : StableHlo.after (hostOps1 (F := F)) Z (Proc.devRef .tc main_v9)
    = cell (Z (Proc.devRef .tc main_v7)) ![0] slices_S4_S1_0 := by sl_kernel_rfl
theorem tail_1 (Z : Valuation τ sig (Elt F)) : StableHlo.after (hostOps1 (F := F)) Z (Proc.devRef .tc main_v11)
    = cell (Z (Proc.devRef .tc main_v7)) ![1] slices_S4_S1_1 := by sl_kernel_rfl
theorem tail_2 (Z : Valuation τ sig (Elt F)) : StableHlo.after (hostOps1 (F := F)) Z (Proc.devRef .tc main_v13)
    = cell (Z (Proc.devRef .tc main_v7)) ![2] slices_S4_S1_2 := by sl_kernel_rfl
theorem tail_3 (Z : Valuation τ sig (Elt F)) : StableHlo.after (hostOps1 (F := F)) Z (Proc.devRef .tc main_v15)
    = cell (Z (Proc.devRef .tc main_v7)) ![3] slices_S4_S1_3 := by sl_kernel_rfl

/-- The four results at the end of a run, and the arguments as they began. -/
theorem run_values : θ_run defs (onTc (τ := τ) (main (F := F))) ⟨m, fun _ => 0, ρ⟩ (fun r => ∀ c : Dev nD,
      r.2.mem ((c.tc : Thread nD τ).loc main_v9) = cell (out4 (outOf (sums m c 29))) ![0] slices_S4_S1_0
      ∧ r.2.mem ((c.tc : Thread nD τ).loc main_v11) = cell (out4 (outOf (sums m c 29))) ![1] slices_S4_S1_1
      ∧ r.2.mem ((c.tc : Thread nD τ).loc main_v13) = cell (out4 (outOf (sums m c 29))) ![2] slices_S4_S1_2
      ∧ r.2.mem ((c.tc : Thread nD τ).loc main_v15) = cell (out4 (outOf (sums m c 29))) ![3] slices_S4_S1_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have e := args_kept m r h.1 c
    refine ⟨?_, ?_, ?_, ?_, e.1, e.2.1, e.2.2.1, e.2.2.2.1, e.2.2.2.2⟩
    · exact ((h.1 c).2 main_v9 (Pipeline.mem_restRefs_of main_v9 (by decide) (by decide))).trans
        ((tail_0 _).trans (congrArg (fun v => cell v ![0] slices_S4_S1_0) (start_5 m c)))
    · exact ((h.1 c).2 main_v11 (Pipeline.mem_restRefs_of main_v11 (by decide) (by decide))).trans
        ((tail_1 _).trans (congrArg (fun v => cell v ![1] slices_S4_S1_1) (start_5 m c)))
    · exact ((h.1 c).2 main_v13 (Pipeline.mem_restRefs_of main_v13 (by decide) (by decide))).trans
        ((tail_2 _).trans (congrArg (fun v => cell v ![2] slices_S4_S1_2) (start_5 m c)))
    · exact ((h.1 c).2 main_v15 (Pipeline.mem_restRefs_of main_v15 (by decide) (by decide))).trans
        ((tail_3 _).trans (congrArg (fun v => cell v ![3] slices_S4_S1_3) (start_5 m c)))) (run_main m ρ)

end Cert.KernelIdeal.Body

end
-- ==== Proof.Ref.Stage.lean ====
/- The steps of the reference's mathematics as functions of whole arrays, and what the reference's buffers hold in terms of
   them. Everything is generic in the number format. -/
module

public import proofs.«01_k».proof.Proof.Ref.Ops
public import Idealize.ShloMosaic.Lib.Tactic

@[expose] public section

set_option maxRecDepth 16384

noncomputable section

namespace Cert.ReferenceIdeal.Steps

open Cert.ReferenceIdeal Cert.ReferenceIdeal.Gen Idealize.ShloMosaic Idealize.ShloMosaic.TcCoe Idealize.ShloMosaic.Tactic
open Idealize.SL.Sem Idealize.ShloMosaic.StableHlo

variable {F : FTy → Type} [FloatOps F]

/-! ## Boxes and their overlaps -/

/-- The boxes as one list. -/
def flat (x : Vec F S6x200x200x7 .f32) : Vec F S240000x7 .f32 := shapeCast S240000x7 x shapeCasts_S6x200x200x7_S240000x7

/-- A column of the predicted boxes. -/
def colP (x : Vec F S240000x7 .f32) (o : Fin 2 → ℕ) (h : S240000x7.Slices o S240000x1) : Vec F S240000 .f32 :=
  shapeCast S240000 (extractStridedSlice S240000x1 o x h) shapeCasts_S240000x1_S240000
/-- A column of the ground-truth boxes. -/
def colG (x : Vec F S50x7 .f32) (o : Fin 2 → ℕ) (h : S50x7.Slices o S50x1) : Vec F S50 .f32 :=
  shapeCast S50 (extractStridedSlice S50x1 o x h) shapeCasts_S50x1_S50

/-- Half of each predicted side. -/
def halfP (w : Vec F S240000 .f32) : Vec F S240000 .f32 :=
  Host.divf w (broadcastInDim S240000 ![] bcast_S_S240000 (constant S_ .f32 0x40000000#32))
/-- Half of each ground-truth side. -/
def halfG (w : Vec F S50 .f32) : Vec F S50 .f32 :=
  Host.divf w (broadcastInDim S50 ![] bcast_S_S50 (constant S_ .f32 0x40000000#32))

/-- One column, as an array of rows of one entry. -/
def uprightP {e : EltTy} (v : Vec F S240000 e) : Vec F S240000x1 e := broadcastInDim S240000x1 ![0] bcast_S240000_S240000x1_0 v
/-- The same for the ground truth. -/
def uprightG (v : Vec F S50 .f32) : Vec F S50x1 .f32 := broadcastInDim S50x1 ![0] bcast_S50_S50x1_0 v

/-- The corners of the predicted boxes. -/
def cornersP (x : Vec F S240000x7 .f32) : Vec F S240000x4 .f32 :=
  concatenate S240000x4 1
    [⟨S240000x1, uprightP (subf (colP x ![0, 0] slices_S240000x7_S240000x1_0_0) (halfP (colP x ![0, 3] slices_S240000x7_S240000x1_0_3)))⟩,
     ⟨S240000x1, uprightP (subf (colP x ![0, 1] slices_S240000x7_S240000x1_0_1) (halfP (colP x ![0, 4] slices_S240000x7_S240000x1_0_4)))⟩,
     ⟨S240000x1, uprightP (addf (colP x ![0, 0] slices_S240000x7_S240000x1_0_0) (halfP (colP x ![0, 3] slices_S240000x7_S240000x1_0_3)))⟩,
     ⟨S240000x1, uprightP (addf (colP x ![0, 1] slices_S240000x7_S240000x1_0_1) (halfP (colP x ![0, 4] slices_S240000x7_S240000x1_0_4)))⟩]
    concatenates_S240000x1_S240000x1_S240000x1_S240000x1_S240000x4_d1
/-- The corners of the ground-truth boxes. -/
def cornersG (x : Vec F S50x7 .f32) : Vec F S50x4 .f32 :=
  concatenate S50x4 1
    [⟨S50x1, uprightG (subf (colG x ![0, 0] slices_S50x7_S50x1_0_0) (halfG (colG x ![0, 3] slices_S50x7_S50x1_0_3)))⟩,
     ⟨S50x1, uprightG (subf (colG x ![0, 1] slices_S50x7_S50x1_0_1) (halfG (colG x ![0, 4] slices_S50x7_S50x1_0_4)))⟩,
     ⟨S50x1, uprightG (addf (colG x ![0, 0] slices_S50x7_S50x1_0_0) (halfG (colG x ![0, 3] slices_S50x7_S50x1_0_3)))⟩,
     ⟨S50x1, uprightG (addf (colG x ![0, 1] slices_S50x7_S50x1_0_1) (halfG (colG x ![0, 4] slices_S50x7_S50x1_0_4)))⟩]
    concatenates_S50x1_S50x1_S50x1_S50x1_S50x4_d1

/-- One corner coordinate of the predicted boxes. -/
def sideP (b : Vec F S240000x4 .f32) (o : Fin 2 → ℕ) (h : S240000x4.Slices o S240000x1) : Vec F S240000 .f32 :=
  shapeCast S240000 (extractStridedSlice S240000x1 o b h) shapeCasts_S240000x1_S240000
/-- One corner coordinate of the ground-truth boxes. -/
def sideG (b : Vec F S50x4 .f32) (o : Fin 2 → ℕ) (h : S50x4.Slices o S50x1) : Vec F S50 .f32 :=
  shapeCast S50 (extractStridedSlice S50x1 o b h) shapeCasts_S50x1_S50
/-- A value per predicted box, against every ground-truth box. -/
def acrossP (v : Vec F S240000 .f32) : Vec F S240000x50 .f32 :=
  broadcastInDim S240000x50 ![0, 1] bcast_S240000x1_S240000x50_0_1 (uprightP v)
/-- A value per ground-truth box, against every predicted box. -/
def downG (v : Vec F S50 .f32) : Vec F S240000x50 .f32 :=
  broadcastInDim S240000x50 ![0, 1] bcast_S1x50_S240000x50_0_1 (broadcastInDim S1x50 ![1] bcast_S50_S1x50_1 v)
/-- Negative lengths become zero. -/
def clip (v : Vec F S240000x50 .f32) : Vec F S240000x50 .f32 :=
  maximumf (broadcastInDim S240000x50 ![] bcast_S_S240000x50 (sitofp .f32 (constantI S_ 32 0#32))) v

/-- The areas the boxes share. -/
def shared (b : Vec F S240000x4 .f32) (g : Vec F S50x4 .f32) : Vec F S240000x50 .f32 :=
  mulf
    (clip (subf (minimumf (acrossP (sideP b ![0, 2] slices_S240000x4_S240000x1_0_2)) (downG (sideG g ![0, 2] slices_S50x4_S50x1_0_2)))
      (maximumf (acrossP (sideP b ![0, 0] slices_S240000x4_S240000x1_0_0)) (downG (sideG g ![0, 0] slices_S50x4_S50x1_0_0)))))
    (clip (subf (minimumf (acrossP (sideP b ![0, 3] slices_S240000x4_S240000x1_0_3)) (downG (sideG g ![0, 3] slices_S50x4_S50x1_0_3)))
      (maximumf (acrossP (sideP b ![0, 1] slices_S240000x4_S240000x1_0_1)) (downG (sideG g ![0, 1] slices_S50x4_S50x1_0_1)))))

/-- The overlaps, from the corners and the shared areas. -/
def overlap (b : Vec F S240000x4 .f32) (g : Vec F S50x4 .f32) (s : Vec F S240000x50 .f32) : Vec F S240000x50 .f32 :=
  Host.divf s
    (addf
      (subf
        (addf
          (acrossP (mulf (subf (sideP b ![0, 2] slices_S240000x4_S240000x1_0_2) (sideP b ![0, 0] slices_S240000x4_S240000x1_0_0))
            (subf (sideP b ![0, 3] slices_S240000x4_S240000x1_0_3) (sideP b ![0, 1] slices_S240000x4_S240000x1_0_1))))
          (downG (mulf (subf (sideG g ![0, 2] slices_S50x4_S50x1_0_2) (sideG g ![0, 0] slices_S50x4_S50x1_0_0))
            (subf (sideG g ![0, 3] slices_S50x4_S50x1_0_3) (sideG g ![0, 1] slices_S50x4_S50x1_0_1)))))
        s)
      (broadcastInDim S240000x50 ![] bcast_S_S240000x50 (constant S_ .f32 0x358637BD#32)))

/-- Every overlap, from the boxes. -/
def ious (x : Vec F S240000x7 .f32) (g : Vec F S50x7 .f32) : Vec F S240000x50 .f32 :=
  overlap (cornersP x) (cornersG g) (shared (cornersP x) (cornersG g))

/-! ## The assignment -/

/-- The best overlap of each anchor. -/
def bestR (v : Vec F S240000x50 .f32) : Vec F S240000 .f32 :=
  Host.reduce FloatOps.maximumf v (constant S_ .f32 0xFF800000#32) reducesTo_S240000x50_S240000_d1 h_S_
/-- The box that has it. -/
def firstR (v : Vec F S240000x50 .f32) : Vec F S240000 .i32 := fun j =>
  (Host.argReduce reducer_argmax_f32_i32 v (iotaInDim S240000x50 32 1) (constant S_ .f32 0xFF800000#32) (constantI S_ 32 0#32)
    reducesTo_S240000x50_S240000_d1 h_S_ j).2
/-- Which anchors are matched. -/
def posR (m : Vec F S240000 .f32) : Vec F S240000 .i1 :=
  cmpf .oge m (broadcastInDim S240000 ![] bcast_S_S240000 (constant S_ .f32 0x3F19999A#32))
/-- Which anchors are background. -/
def negR (m : Vec F S240000 .f32) : Vec F S240000 .i1 :=
  cmpf .ole m (broadcastInDim S240000 ![] bcast_S_S240000 (constant S_ .f32 0x3ECCCCCD#32))
/-- A flat array of flags, by anchor shape and place. -/
def grid {e : EltTy} (p : Vec F S240000 e) : Vec F S6x200x200 e := shapeCast S6x200x200 p shapeCasts_S240000_S6x200x200

/-- An index counted from the end if negative. -/
def wrap (i : Vec F S240000 .i32) : Vec F S240000 .i32 :=
  select (cmpi .slt i (broadcastInDim S240000 ![] bcast_S_S240000 (constantI S_ 32 0#32)))
    (addi i (broadcastInDim S240000 ![] bcast_S_S240000 (constantI S_ 32 50#32))) i
/-- The matched boxes, zero for an anchor that is not matched. -/
def boxSel (p : Vec F S240000 .i1) (b : Vec F S240000x7 .f32) : Vec F S240000x7 .f32 :=
  select (broadcastInDim S240000x7 ![0, 1] bcast_S240000x1_S240000x7_0_1 (uprightP p)) b
    (broadcastInDim S240000x7 ![] bcast_S_S240000x7 (constant S_ .f32 0x00000000#32))
/-- The matched labels, zero for an anchor that is not matched. -/
def labelSel (p : Vec F S240000 .i1) (l : Vec F S240000 .i32) : Vec F S240000 .i32 :=
  select p l (broadcastInDim S240000 ![] bcast_S_S240000 (constantI S_ 32 0#32))

/-! ## The losses -/

/-- A flag per anchor, for every class. -/
def everyClass (p : Vec F S6x1x200x200 .i1) : Vec F S6x10x200x200 .f32 :=
  broadcastInDim S6x10x200x200 ![0, 1, 2, 3] bcast_S6x1x200x200_S6x10x200x200_0_1_2_3 (uitofp .f32 p)
/-- A flag per anchor, with an axis for the classes. -/
def classAxis (p : Vec F S6x200x200 .i1) : Vec F S6x1x200x200 .i1 :=
  broadcastInDim S6x1x200x200 ![0, 2, 3] bcast_S6x200x200_S6x1x200x200_0_2_3 p

/-- The targets: one at the class of a matched anchor, zero elsewhere. -/
def targets (l : Vec F S6x200x200 .i32) (p : Vec F S6x200x200 .i1) : Vec F S6x10x200x200 .f32 :=
  mulf
    (transpose S6x10x200x200 [0, 3, 1, 2]
      (uitofp .f32
        (cmpi .eq
          (broadcastInDim S6x200x200x10 ![0, 1, 2, 3] bcast_S6x200x200x1_S6x200x200x10_0_1_2_3
            (broadcastInDim S6x200x200x1 ![0, 1, 2] bcast_S6x200x200_S6x200x200x1_0_1_2 l))
          (broadcastInDim S6x200x200x10 ![0, 1, 2, 3] bcast_S1x1x1x10_S6x200x200x10_0_1_2_3 (iotaInDim S1x1x1x10 32 3))))
      transposes_S6x200x200x10_S6x10x200x200_0_3_1_2)
    (everyClass (classAxis p))

/-- A number over the whole array of scores. -/
def fullS (b : BitVec 32) : Vec F S6x10x200x200 .f32 :=
  broadcastInDim S6x10x200x200 ![] bcast_S_S6x10x200x200 (constant S_ .f32 b)

/-- The sigmoid. -/
def sigmoid (s : Vec F S6x10x200x200 .f32) : Vec F S6x10x200x200 .f32 :=
  Host.divf (fullS 0x3F800000#32) (addf (fullS 0x3F800000#32) (Host.exp (Host.negf s)))
/-- The cross entropy of the scores. -/
def entropy (s t : Vec F S6x10x200x200 .f32) : Vec F S6x10x200x200 .f32 :=
  addf (subf (maximumf s (fullS 0x00000000#32)) (mulf s t)) (Host.log1p (Host.exp (Host.negf (Host.absf s))))
/-- The focal losses. -/
def focalR (t g e : Vec F S6x10x200x200 .f32) : Vec F S6x10x200x200 .f32 :=
  mulf
    (mulf (select (cmpf .oeq t (fullS 0x3F800000#32)) (fullS 0x3E800000#32) (fullS 0x3F400000#32))
      (Host.powf (subf (fullS 0x3F800000#32) (select (cmpf .oeq t (fullS 0x3F800000#32)) g (subf (fullS 0x3F800000#32) g)))
        (fullS 0x40000000#32)))
    e
/-- A number over the whole array of boxes. -/
def fullB (b : BitVec 32) : Vec F S6x200x200x7 .f32 := broadcastInDim S6x200x200x7 ![] bcast_S_S6x200x200x7 (constant S_ .f32 b)
/-- The smooth distances. -/
def smoothR (d : Vec F S6x200x200x7 .f32) : Vec F S6x200x200x7 .f32 :=
  select (cmpf .olt (Host.absf d) (fullB 0x3F800000#32)) (mulf (mulf (fullB 0x3F000000#32) d) d)
    (subf (Host.absf d) (fullB 0x3F000000#32))
/-- The smooth distances of the matched anchors, zero for the others. -/
def regTerm (d : Vec F S6x200x200x7 .f32) (p : Vec F S6x200x200 .i1) : Vec F S6x200x200x7 .f32 :=
  mulf (smoothR d)
    (broadcastInDim S6x200x200x7 ![0, 1, 2, 3] bcast_S6x200x200x1_S6x200x200x7_0_1_2_3
      (uitofp .f32 (broadcastInDim S6x200x200x1 ![0, 1, 2] bcast_S6x200x200_S6x200x200x1_0_1_2 p)))
/-- The mean focal loss, from the count of anchors that take part and the sum. -/
def clsQuot (n : Vec F S_ .i32) (s : Vec F S_ .f32) : Vec F S_ .f32 :=
  Host.divf s (addf (sitofp .f32 n) (constant S_ .f32 0x358637BD#32))
/-- The mean smooth distance, from the count of matched anchors and the sum. -/
def regQuot (n : Vec F S_ .i32) (s : Vec F S_ .f32) : Vec F S_ .f32 :=
  select (cmpi .sgt n (constantI S_ 32 0#32))
    (Host.divf s (sitofp .f32 (maxsi (muli n (constantI S_ 32 7#32)) (constantI S_ 32 1#32))))
    (constant S_ .f32 0x00000000#32)

/-- The objectness losses. -/
def bceR (o : Vec F S6x200x200 .f32) (p : Vec F S6x200x200 .i1) : Vec F S6x200x200 .f32 :=
  addf
    (subf (maximumf o (broadcastInDim S6x200x200 ![] bcast_S_S6x200x200 (constant S_ .f32 0x00000000#32)))
      (mulf o (uitofp .f32 p)))
    (Host.log1p (Host.exp (Host.negf (Host.absf o))))
/-- The mean objectness loss, from the count of anchors that take part and the sum. -/
def objQuot (n : Vec F S_ .i32) (s : Vec F S_ .f32) : Vec F S_ .f32 :=
  select (cmpi .sgt n (constantI S_ 32 0#32))
    (Host.divf s (sitofp .f32 (maxsi n (constantI S_ 32 1#32)))) (constant S_ .f32 0x00000000#32)
/-- The weighted total. -/
def totalR (c r b : Vec F S_ .f32) : Vec F S_ .f32 :=
  addf (addf (mulf (constant S_ .f32 0x3F800000#32) c) (mulf (constant S_ .f32 0x40000000#32) r))
    (mulf (constant S_ .f32 0x3F800000#32) b)

end Cert.ReferenceIdeal.Steps

end
-- ==== Proof.Ref.Score.lean ====
/- The reference's three losses at one place are the kernel's. -/
module

public import proofs.«01_k».proof.Proof.Ref.Stage
public import proofs.«01_k».proof.Proof.Ideal.Lane
public import Idealize.ShloMosaic.Lib.Pointwise

@[expose] public section

set_option maxRecDepth 16384

noncomputable section

namespace Cert.ReferenceIdeal.Steps

open Cert.ReferenceIdeal Cert.ReferenceIdeal.Gen Idealize.ShloMosaic Idealize.ShloMosaic.TcCoe
open Cert.KernelIdeal.Body (num focal smooth bce ofBit expNeg recip)

theorem lit_zero : Ideal.ofBits .f32 0x00000000#32 = ((0 : ℝ) : EReal) := by simp
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- A bit is zero or one. -/
theorem bit_cases (b : BitVec 1) : b = 0#1 ∨ b = 1#1 := by
  revert b; decide

/-- One over a number that is at least one. -/
theorem div_one_add (x : ℝ) : Ideal.div 1 (1 + ((Real.exp x : ℝ) : EReal)) = ((1 / (1 + Real.exp x) : ℝ) : EReal) := by
  have h : (1 : EReal) + ((Real.exp x : ℝ) : EReal) = ((1 + Real.exp x : ℝ) : EReal) := by push_cast; rfl
  rw [h, Ideal.div_coe (by positivity), one_mul]

/-- The kernel's reciprocal and exponential at a real. -/
theorem expNeg_coe (r : ℝ) : expNeg (F := Ideal) (r : EReal) = ((Real.exp (-|r|) : ℝ) : EReal) := by
  show Ideal.exp (Ideal.ofBits .f32 0x00000000#32 - max (r : EReal) (-(r : EReal))) = _
  have hm : max (r : EReal) ((-r : ℝ) : EReal) = ((max r (-r) : ℝ) : EReal) := (EReal.coe_strictMono.monotone.map_max).symm
  rw [lit_zero, ← EReal.coe_neg, hm, ← EReal.coe_sub, Ideal.exp_coe, zero_sub]
  rfl
theorem recip_coe (r : ℝ) : recip (F := Ideal) (r : EReal) = ((1 / (1 + Real.exp (-|r|)) : ℝ) : EReal) := by
  show Ideal.div (Ideal.ofBits .f32 0x3F800000#32) (Ideal.ofBits .f32 0x3F800000#32 + expNeg (F := Ideal) (r : EReal)) = _
  rw [lit_one, expNeg_coe, EReal.coe_one, div_one_add]
theorem expNeg_top : expNeg (F := Ideal) ⊤ = (0 : EReal) := by
  show Ideal.exp (Ideal.ofBits .f32 0x00000000#32 - max ⊤ (-⊤)) = _
  rw [lit_zero]; simp
theorem expNeg_bot : expNeg (F := Ideal) ⊥ = (0 : EReal) := by
  show Ideal.exp (Ideal.ofBits .f32 0x00000000#32 - max ⊥ (-⊥)) = _
  rw [lit_zero]; simp
theorem recip_of (s : EReal) (h : expNeg (F := Ideal) s = (0 : EReal)) : recip (F := Ideal) s = (1 : EReal) := by
  show Ideal.div (Ideal.ofBits .f32 0x3F800000#32) (Ideal.ofBits .f32 0x3F800000#32 + expNeg (F := Ideal) s) = _
  rw [lit_one, h, add_zero, Ideal.div_coe (by norm_num)]; simp

theorem one_sub_one : (1 : EReal) - 1 = 0 := by rw [← EReal.coe_one, ← EReal.coe_sub, sub_self, EReal.coe_zero]

/-- What a sigmoid misses its target by, either way it is worked out. -/
theorem miss (t : BitVec 1) (s : EReal) :
    ∃ r : ℝ,
      (1 : EReal) - (if t = 1#1 then Ideal.div 1 (1 + Ideal.exp (-s)) else 1 - Ideal.div 1 (1 + Ideal.exp (-s))) = (r : EReal) ∧
      Scalar.select (IntOp.xori t (Ideal.cmp .oge s 0)) (recip (F := Ideal) s)
        ((expNeg (F := Ideal) s : EReal) * (recip (F := Ideal) s : EReal)) = (r : EReal) := by
  induction s using EReal.rec with
  | bot =>
    have e : Ideal.div 1 (1 + Ideal.exp (-⊥)) = (0 : EReal) := by
      rw [EReal.neg_bot, Ideal.exp_top, EReal.add_top_of_ne_bot (show (1 : EReal) ≠ ⊥ from EReal.coe_ne_bot 1)]
      simp [Ideal.div]
    have c : Ideal.cmp .oge (⊥ : EReal) 0 = 0#1 := by simp [Ideal.cmp]
    rw [e, c, recip_of _ expNeg_bot, expNeg_bot]
    rcases bit_cases t with rfl | rfl
    · exact ⟨0, by simp [one_sub_one], by simp [Scalar.select, IntOp.xori]⟩
    · exact ⟨1, by simp, by simp [Scalar.select, IntOp.xori]⟩
  | top =>
    have e : Ideal.div 1 (1 + Ideal.exp (-⊤)) = (1 : EReal) := by
      rw [EReal.neg_top, Ideal.exp_bot, add_zero, ← EReal.coe_one, Ideal.div_coe (by norm_num)]; simp
    have c : Ideal.cmp .oge (⊤ : EReal) 0 = 1#1 := by simp [Ideal.cmp]
    rw [e, c, recip_of _ expNeg_top, expNeg_top]
    rcases bit_cases t with rfl | rfl
    · exact ⟨1, by simp [one_sub_one], by simp [Scalar.select, IntOp.xori]⟩
    · exact ⟨0, by simp [one_sub_one], by simp [Scalar.select, IntOp.xori]⟩
  | coe r =>
    have e : Ideal.div 1 (1 + Ideal.exp (-(r : EReal))) = ((1 / (1 + Real.exp (-r)) : ℝ) : EReal) := by
      rw [← EReal.coe_neg, Ideal.exp_coe, div_one_add]
    have e1 : (1 : EReal) - ((1 / (1 + Real.exp (-r)) : ℝ) : EReal) = ((1 - 1 / (1 + Real.exp (-r)) : ℝ) : EReal) := by
      rw [← EReal.coe_one, ← EReal.coe_sub]
    have e2 : (1 : EReal) - ((1 - 1 / (1 + Real.exp (-r)) : ℝ) : EReal) = ((1 / (1 + Real.exp (-r)) : ℝ) : EReal) := by
      rw [← EReal.coe_one, ← EReal.coe_sub]; congr 1; ring
    have p1 : 0 < Real.exp (-r) := Real.exp_pos _
    have p2 : Real.exp r * Real.exp (-r) = 1 := by rw [← Real.exp_add]; simp
    rw [e, e1, expNeg_coe, recip_coe, ← EReal.coe_mul]
    rcases le_or_gt 0 r with h | h
    · have c : Ideal.cmp .oge (r : EReal) 0 = 1#1 := by simp [Ideal.cmp, h]
      have x : 1 - 1 / (1 + Real.exp (-r)) = Real.exp (-r) * (1 / (1 + Real.exp (-r))) := by field_simp; ring
      rw [c, abs_of_nonneg h]
      rcases bit_cases t with rfl | rfl
      · exact ⟨1 / (1 + Real.exp (-r)), by rw [if_neg (by decide), e2], by simp [Scalar.select, IntOp.xori]⟩
      · exact ⟨1 - 1 / (1 + Real.exp (-r)), by rw [if_pos rfl, e1], by rw [x]; simp [Scalar.select, IntOp.xori]⟩
    · have c : Ideal.cmp .oge (r : EReal) 0 = 0#1 := by
        simp only [Ideal.cmp]
        rw [decide_eq_false (by simpa using h)]; rfl
      have p3 : 0 < Real.exp r := Real.exp_pos _
      have x : 1 - 1 / (1 + Real.exp (-r)) = 1 / (1 + Real.exp r) := by
        field_simp; nlinarith
      have y : 1 / (1 + Real.exp (-r)) = Real.exp r * (1 / (1 + Real.exp r)) := by
        field_simp; nlinarith
      rw [c, abs_of_neg h, neg_neg]
      rcases bit_cases t with rfl | rfl
      · exact ⟨1 / (1 + Real.exp (-r)), by rw [if_neg (by decide), e2], by rw [y]; simp [Scalar.select, IntOp.xori]⟩
      · exact ⟨1 - 1 / (1 + Real.exp (-r)), by rw [if_pos rfl, e1], by rw [x]; simp [Scalar.select, IntOp.xori]⟩

/-- The square, as the reference takes it. -/
theorem pow_two_coe (r : ℝ) : Ideal.pow (r : EReal) (Ideal.ofBits .f32 0x40000000#32) = (r : EReal) * (r : EReal) := by
  rw [lit_two, Ideal.pow_coe_coe, ← EReal.coe_mul]
  congr 1
  show r ^ (2 : ℝ) = r * r
  rw [Real.rpow_two, sq]

/-- The exponential of minus the absolute value. -/
theorem expNeg_eq (s : EReal) : expNeg (F := Ideal) s = Ideal.exp (-(FloatOps.absf (F := Ideal) (φ := .f32) s : EReal)) := by
  show Ideal.exp (Ideal.ofBits .f32 0x00000000#32 - (FloatOps.absf (F := Ideal) (φ := .f32) s : EReal)) = _
  rw [lit_zero, EReal.coe_zero, zero_sub]

/-- A bit as a number. -/
theorem ofBit_zero : ofBit (F := Ideal) 0#1 = (0 : EReal) := by
  show Ideal.ofBits .f32 0x00000000#32 = 0
  rw [lit_zero, EReal.coe_zero]
theorem ofBit_one : ofBit (F := Ideal) 1#1 = (1 : EReal) := by
  show Ideal.ofBits .f32 0x3F800000#32 = 1
  rw [lit_one, EReal.coe_one]
theorem uitofp_bit (b : BitVec 1) : (FloatOps.uitofp .f32 b : Ideal .f32) = ofBit (F := Ideal) b := by
  show ((b.toNat : ℝ) : EReal) = _
  rcases bit_cases b with rfl | rfl
  · rw [ofBit_zero]; simp
  · rw [ofBit_one]; simp

theorem ofBit_eq_one (b : BitVec 1) : (ofBit (F := Ideal) b : EReal) = 1 ↔ b = 1#1 := by
  rcases bit_cases b with rfl | rfl
  · rw [ofBit_zero]; simp
  · rw [ofBit_one]; simp

/-- The product with a bit is a choice. -/
theorem mul_ofBit (b : BitVec 1) (s : EReal) : s * (ofBit (F := Ideal) b : EReal) = Scalar.select b s (Ideal.ofBits .f32 0x00000000#32) := by
  rcases bit_cases b with rfl | rfl
  · rw [ofBit_zero, mul_zero, lit_zero, EReal.coe_zero]; rfl
  · rw [ofBit_one, mul_one]; rfl

theorem focal_at (t s : Vec Ideal S6x10x200x200 .f32) (b : BitVec 1) (i : S6x10x200x200.Idx) (h : t i = ofBit (F := Ideal) b) :
    focalR t (sigmoid s) (entropy s t) i = focal (F := Ideal) b (s i) := by
  pointwise [focalR, sigmoid, entropy, fullS]
  rw [h]
  obtain ⟨r, h1, h2⟩ := miss b (s i)
  have hr : (1 : EReal) - (if (ofBit (F := Ideal) b : EReal) = 1 then Ideal.div 1 (1 + Ideal.exp (-s i)) else 1 - Ideal.div 1 (1 + Ideal.exp (-s i)))
      = (r : EReal) := by
    rw [← h1]; simp only [ofBit_eq_one]
  have hs : (if (ofBit (F := Ideal) b : EReal) = 1 then Ideal.ofBits .f32 1048576000#32 else Ideal.ofBits .f32 1061158912#32)
      = Scalar.select b (Ideal.ofBits .f32 1048576000#32) (Ideal.ofBits .f32 1061158912#32) := by
    simp only [ofBit_eq_one]; rfl
  refine (congrArg₂ (· * ·) (congrArg₂ (· * ·) hs (congrArg₂ Ideal.pow hr rfl)) rfl).trans ?_
  rw [pow_two_coe, mul_ofBit, ← expNeg_eq]
  have hz : Ideal.ofBits .f32 0x00000000#32 = 0 := by simp
  unfold focal num
  simp only [Ideal.ofBits_def, Ideal.addf_def, Ideal.subf_def, Ideal.mulf_def, Ideal.maximumf_def, Ideal.log1p_def, Ideal.cmpf_def, hz, h2]

theorem smooth_at (d : Vec Ideal S6x200x200x7 .f32) (i : S6x200x200x7.Idx) : smoothR d i = smooth (F := Ideal) (d i) := by
  have h1 : Ideal.ofBits .f32 0x3F800000#32 = 1 := by rw [lit_one, EReal.coe_one]
  pointwise [smoothR, fullB]
  unfold smooth num
  simp only [Ideal.ofBits_def, Ideal.subf_def, Ideal.mulf_def, Ideal.cmpf_def, h1, Scalar.select, Ideal.cmp]
  by_cases h : (FloatOps.absf (F := Ideal) (φ := .f32) (d i) : EReal) < 1
  · rw [if_pos h, if_pos (by rw [decide_eq_true h]; rfl)]
  · rw [if_neg h, if_neg (by rw [decide_eq_false h]; decide)]

theorem bce_at (o : Vec Ideal S6x200x200 .f32) (p : Vec Ideal S6x200x200 .i1) (i : S6x200x200.Idx) :
    bceR o p i = bce (F := Ideal) (p i) (o i) := by
  have hz : Ideal.ofBits .f32 0x00000000#32 = 0 := by simp
  pointwise [bceR]
  rw [uitofp_bit, ← expNeg_eq]
  unfold bce num
  simp only [Ideal.ofBits_def, Ideal.addf_def, Ideal.subf_def, Ideal.mulf_def, Ideal.maximumf_def, Ideal.log1p_def, hz]

end Cert.ReferenceIdeal.Steps

end
-- ==== Proof.Ref.Place.lean ====
/- The reference's whole-array steps read at one place. -/
module

public import proofs.«01_k».proof.Proof.Ref.Score

@[expose] public section

set_option maxRecDepth 16384

noncomputable section

namespace Cert.ReferenceIdeal.Steps

open Cert.ReferenceIdeal Cert.ReferenceIdeal.Gen Idealize.ShloMosaic Idealize.ShloMosaic.TcCoe
open Cert.KernelIdeal.Body (num focal smooth bce ofBit)

/-- The number of the anchor of shape `a` at row `h`, column `w`. -/
def place (a : Fin 6) (h w : Fin 200) : Fin 240000 := ⟨a.val * 40000 + h.val * 200 + w.val, by omega⟩

theorem grid_at {e : EltTy} (p : Vec Ideal S240000 e) (a : Fin 6) (h w : Fin 200) :
    grid p (ix3 a h w) = p (ix1 (place a h w)) := by
  pointwise [grid]
  rfl

theorem flat_at (x : Vec Ideal S6x200x200x7 .f32) (a : Fin 6) (h w : Fin 200) (k : Fin 7) :
    flat x (ix2 (place a h w) k) = x (ix4 a h w k) := by
  pointwise [flat, place]

theorem unflat_at (x : Vec Ideal S240000x7 .f32) (a : Fin 6) (h w : Fin 200) (k : Fin 7) :
    shapeCast S6x200x200x7 x shapeCasts_S240000x7_S6x200x200x7 (ix4 a h w k) = x (ix2 (place a h w) k) := by
  pointwise
  rfl

theorem classAxis_at (p : Vec Ideal S6x200x200 .i1) (a : Fin 6) (h w : Fin 200) :
    classAxis p (ix4 a (0 : Fin 1) h w) = p (ix3 a h w) := by
  pointwise [classAxis]

theorem everyClass_at (p : Vec Ideal S6x1x200x200 .i1) (a : Fin 6) (c : Fin 10) (h w : Fin 200) :
    everyClass p (ix4 a c h w) = ofBit (F := Ideal) (p (ix4 a (0 : Fin 1) h w)) := by
  rw [← uitofp_bit]
  pointwise [everyClass]

theorem targets_at (l : Vec Ideal S6x200x200 .i32) (p : Vec Ideal S6x200x200 .i1) (a : Fin 6) (c : Fin 10) (h w : Fin 200) :
    (targets l p (ix4 a c h w) : EReal)
      = (ofBit (F := Ideal) (IntOp.cmpi .eq (l (ix3 a h w)) (BitVec.ofNat 32 c.val)) : EReal) * (ofBit (F := Ideal) (p (ix3 a h w)) : EReal) := by
  rw [← uitofp_bit, ← uitofp_bit]
  pointwise [targets, everyClass, classAxis]

theorem regTerm_at (d : Vec Ideal S6x200x200x7 .f32) (p : Vec Ideal S6x200x200 .i1) (a : Fin 6) (h w : Fin 200) (k : Fin 7) :
    (regTerm d p (ix4 a h w k) : EReal) = (smooth (F := Ideal) (d (ix4 a h w k)) : EReal) * (ofBit (F := Ideal) (p (ix3 a h w)) : EReal) := by
  rw [← uitofp_bit, ← smooth_at]
  pointwise [regTerm]

theorem boxSel_at (p : Vec Ideal S240000 .i1) (b : Vec Ideal S240000x7 .f32) (n : Fin 240000) (k : Fin 7) :
    (boxSel p b (ix2 n k) : EReal) = if p (ix1 n) = 1#1 then b (ix2 n k) else 0 := by
  pointwise [boxSel, uprightP]
  rfl

/-- An index below fifty stays as it is. -/
theorem wrap_at (i : Vec Ideal S240000 .i32) (n : Fin 240000) (j : Fin 50) (hj : i (ix1 n) = BitVec.ofNat 32 j.val) :
    uprightP (F := Ideal) (wrap i) (ix2 n (0 : Fin 1)) = BitVec.ofNat 32 j.val := by
  have h : ∀ j : Fin 50, Scalar.select (IntOp.cmpi .slt (BitVec.ofNat 32 j.val) 0#32) (IntOp.addi (BitVec.ofNat 32 j.val) 50#32)
      (BitVec.ofNat 32 j.val) = BitVec.ofNat 32 j.val := by decide
  refine Eq.trans ?_ (h j)
  rw [← hj]
  pointwise [uprightP, wrap]

theorem clamp_at : ∀ j : Fin 50, min (BitVec.ofNat 32 j.val).toInt.toNat (50 - 1) = j.val := by decide

theorem gatherBox_at (x : Vec Ideal S50x7 .f32) (i : Vec Ideal S240000 .i32) (n : Fin 240000) (k : Fin 7) (j : Fin 50)
    (hj : i (ix1 n) = BitVec.ofNat 32 j.val) :
    Host.gather gather_S50x7_S240000x1_S240000x7_1_0_n_n_0_1_17 x (uprightP (F := Ideal) (wrap i)) (ix2 n k) = x (ix2 j k) := by
  unfold Host.gather
  congr 1
  funext a
  refine Fin.ext ?_
  show gather_S50x7_S240000x1_S240000x7_1_0_n_n_0_1_17.start (ix2 n k) _ a + gather_S50x7_S240000x1_S240000x7_1_0_n_n_0_1_17.batchCoord (ix2 n k) a
      + gather_S50x7_S240000x1_S240000x7_1_0_n_n_0_1_17.offCoord (ix2 n k) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S50x7_S240000x1_S240000x7_1_0_n_n_0_1_17.startIndexMap from List.mem_singleton.mpr rfl)]
    have hsi : gather_S50x7_S240000x1_S240000x7_1_0_n_n_0_1_17.siIdx (ix2 n k) ⟨List.idxOf (0 : Fin 2) gather_S50x7_S240000x1_S240000x7_1_0_n_n_0_1_17.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, wrap_at i n j hj]
    exact clamp_at j
  · unfold GatherDims.start
    rw [dif_neg (show ¬ (1 : Fin 2) ∈ gather_S50x7_S240000x1_S240000x7_1_0_n_n_0_1_17.startIndexMap by decide), Nat.zero_add]
    rfl

theorem gatherLabel_at (x : Vec Ideal S50 .i32) (i : Vec Ideal S240000 .i32) (n : Fin 240000) (j : Fin 50)
    (hj : i (ix1 n) = BitVec.ofNat 32 j.val) :
    Host.gather gather_S50_S240000x1_S240000_n_0_n_n_0_1_1 x (uprightP (F := Ideal) (wrap i)) (ix1 n) = x (ix1 j) := by
  unfold Host.gather
  congr 1
  funext a
  obtain rfl : a = (0 : Fin 1) := Subsingleton.elim _ _
  refine Fin.ext ?_
  show gather_S50_S240000x1_S240000_n_0_n_n_0_1_1.start (ix1 n) _ 0 + gather_S50_S240000x1_S240000_n_0_n_n_0_1_1.batchCoord (ix1 n) 0
      + gather_S50_S240000x1_S240000_n_0_n_n_0_1_1.offCoord (ix1 n) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 1) ∈ gather_S50_S240000x1_S240000_n_0_n_n_0_1_1.startIndexMap from List.mem_singleton.mpr rfl)]
  have hsi : gather_S50_S240000x1_S240000_n_0_n_n_0_1_1.siIdx (ix1 n) ⟨List.idxOf (0 : Fin 1) gather_S50_S240000x1_S240000_n_0_n_n_0_1_1.startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi, wrap_at i n j hj]
  exact clamp_at j

end Cert.ReferenceIdeal.Steps

end
-- ==== Proof.Ref.Argmax.lean ====
/- The reference takes the greatest overlap of each anchor and the first box that has it; the kernel runs through the boxes
   and keeps what beats the best so far. The two agree. -/
module

public import proofs.«01_k».proof.Proof.Ref.Stage
public import proofs.«01_k».proof.Proof.Ideal.Lane
public import Idealize.ShloMosaic.Lib.Pointwise

@[expose] public section

set_option maxRecDepth 16384

noncomputable section

namespace Cert.ReferenceIdeal.Steps

open Cert.ReferenceIdeal Cert.ReferenceIdeal.Gen Idealize.ShloMosaic Idealize.ShloMosaic.TcCoe
open Cert.KernelIdeal.Body (num iou best beats pick)

/-! ## A pair that is greatest in value, and first among those -/

/-- `r` comes no later than `p`: its value is greater, or the same with an index no greater. -/
def Ahead (r p : EReal × BitVec 32) : Prop := p.1 < r.1 ∨ (p.1 = r.1 ∧ r.2.toInt ≤ p.2.toInt)

theorem Ahead.refl (p : EReal × BitVec 32) : Ahead p p := .inr ⟨rfl, le_refl _⟩
theorem Ahead.trans {r p q : EReal × BitVec 32} (h : Ahead r p) (k : Ahead p q) : Ahead r q := by
  rcases h with h | ⟨h, h'⟩
  · rcases k with k | ⟨k, _⟩
    · exact .inl (k.trans h)
    · exact .inl (k ▸ h)
  · rcases k with k | ⟨k, k'⟩
    · exact .inl (h ▸ k)
    · exact .inr ⟨k.trans h, h'.trans k'⟩

/-- The reducer on two pairs answers one of them. -/
theorem reducer_eq (a b : EReal × BitVec 32) :
    reducer_argmax_f32_i32 (F := Ideal) a b =
      if b.1 < a.1 ∨ (a.1 = b.1 ∧ a.2.toInt < b.2.toInt) then a else b := by
  have hne : Ideal.cmp .une a.1 a.1 = 0#1 := by simp [Ideal.cmp]
  have hz : ∀ x : BitVec 1, IntOp.ori x 0#1 = x := by decide
  unfold reducer_argmax_f32_i32
  simp only [Ideal.cmpf_def, hne, hz]
  by_cases h1 : b.1 < a.1
  · have c1 : Ideal.cmp .ogt a.1 b.1 = 1#1 := by simp [Ideal.cmp, h1]
    have hx : ∀ x : BitVec 1, IntOp.ori 1#1 x = 1#1 := by decide
    rw [if_pos (.inl h1), c1, hx]; rfl
  · have c1 : Ideal.cmp .ogt a.1 b.1 = 0#1 := by simp only [Ideal.cmp]; rw [decide_eq_false h1]; rfl
    have hx : ∀ x : BitVec 1, IntOp.ori 0#1 x = x := by decide
    rw [c1, hx]
    by_cases h2 : a.1 = b.1
    · have c2 : Ideal.cmp .oeq a.1 b.1 = 1#1 := by simp [Ideal.cmp, h2]
      have hy : ∀ x : BitVec 1, IntOp.andi 1#1 x = x := by decide
      rw [c2, hy]
      by_cases h3 : a.2.toInt < b.2.toInt
      · have c3 : IntOp.cmpi .slt a.2 b.2 = 1#1 := by simp [IntOp.cmpi, BitVec.slt, h3]
        rw [if_pos (.inr ⟨h2, h3⟩), c3]
        exact Prod.ext h2.symm rfl
      · have c3 : IntOp.cmpi .slt a.2 b.2 = 0#1 := by
          simp only [IntOp.cmpi, BitVec.slt]; rw [decide_eq_false h3]; rfl
        rw [if_neg (by rintro (h | h) <;> [exact h1 h; exact h3 h.2]), c3]; rfl
    · have c2 : Ideal.cmp .oeq a.1 b.1 = 0#1 := by simp only [Ideal.cmp]; rw [decide_eq_false h2]; rfl
      have hy : ∀ x : BitVec 1, IntOp.andi 0#1 x = 0#1 := by decide
      rw [c2, hy, if_neg (by rintro (h | h) <;> [exact h1 h; exact h2 h.1])]; rfl

theorem reducer_ahead (a b : EReal × BitVec 32) :
    Ahead (reducer_argmax_f32_i32 (F := Ideal) a b) a ∧ Ahead (reducer_argmax_f32_i32 (F := Ideal) a b) b ∧
      (reducer_argmax_f32_i32 (F := Ideal) a b = a ∨ reducer_argmax_f32_i32 (F := Ideal) a b = b) := by
  rw [reducer_eq]
  split_ifs with h
  · refine ⟨.refl a, ?_, .inl rfl⟩
    rcases h with h | ⟨h, h'⟩
    · exact .inl h
    · exact .inr ⟨h.symm, h'.le⟩
  · refine ⟨?_, .refl b, .inr rfl⟩
    rcases lt_trichotomy a.1 b.1 with k | k | k
    · exact .inl k
    · exact .inr ⟨k, not_lt.mp fun l => h (.inr ⟨k, l⟩)⟩
    · exact absurd (.inl k) h

/-- The fold of the reducer answers the start or one of the list, and comes ahead of all of them. -/
theorem fold_ahead (l : List (EReal × BitVec 32)) (a : EReal × BitVec 32) :
    (l.foldl (reducer_argmax_f32_i32 (F := Ideal)) a = a ∨ l.foldl (reducer_argmax_f32_i32 (F := Ideal)) a ∈ l) ∧
      Ahead (l.foldl (reducer_argmax_f32_i32 (F := Ideal)) a) a ∧
      ∀ p ∈ l, Ahead (l.foldl (reducer_argmax_f32_i32 (F := Ideal)) a) p := by
  induction l generalizing a with
  | nil => exact ⟨.inl rfl, .refl a, fun _ h => absurd h List.not_mem_nil⟩
  | cons b l ih =>
    obtain ⟨h1, h2, h3⟩ := ih (reducer_argmax_f32_i32 (F := Ideal) a b)
    obtain ⟨k1, k2, k3⟩ := reducer_ahead a b
    refine ⟨?_, h2.trans k1, ?_⟩
    · rcases h1 with h1 | h1
      · rcases k3 with k3 | k3
        · exact .inl (h1.trans k3)
        · exact .inr (List.mem_cons.mpr (.inl (h1.trans k3)))
      · exact .inr (List.mem_cons.mpr (.inr h1))
    · intro p hp
      rcases List.mem_cons.mp hp with rfl | hp
      · exact h2.trans k2
      · exact h3 p hp

/-! ## The two reductions of one row -/

/-- An index of the array of overlaps belongs to row `n` when its first coordinate is `n`. -/
theorem row_of_drop (i : S240000x50.Idx) (n : Fin 240000) (h : reducesTo_S240000x50_S240000_d1.drop i = ix1 n) :
    i = ix2 n (i 1) := by
  have h0 : (i 0 : Fin 240000).val = n.val := by
    have := congrArg (fun j : S240000.Idx => (j 0).val) h
    rw [← Shape.ReducesTo.drop_apply_val_of_eq reducesTo_S240000x50_S240000_d1 i 0 0]
    exact this
  funext a
  fin_cases a
  · exact Fin.ext h0
  · rfl
theorem drop_row (n : Fin 240000) (j : Fin 50) : reducesTo_S240000x50_S240000_d1.drop (ix2 n j) = ix1 n := by
  funext a
  fin_cases a
  rfl

theorem lit_negInf : Ideal.ofBits .f32 0xFF800000#32 = ⊥ := by simp [Ideal.ofBits, Ideal.ieee]

/-- The fold of the greater of two answers the start or a member, and is no less than any. -/
theorem fold_max {α : Type} (s : Finset α) (f : α → EReal) :
    (s.fold max ⊥ f = ⊥ ∨ ∃ a ∈ s, s.fold max ⊥ f = f a) ∧ ∀ a ∈ s, f a ≤ s.fold max ⊥ f := by
  classical
  induction s using Finset.induction_on with
  | empty => exact ⟨.inl rfl, fun _ h => absurd h (Finset.notMem_empty _)⟩
  | insert a s ha ih =>
    rw [Finset.fold_insert ha]
    refine ⟨?_, ?_⟩
    · rcases max_choice (f a) (s.fold max ⊥ f) with h | h
      · exact .inr ⟨a, Finset.mem_insert_self _ _, h⟩
      · rw [h]
        rcases ih.1 with h' | ⟨b, hb, h'⟩
        · exact .inl h'
        · exact .inr ⟨b, Finset.mem_insert_of_mem hb, h'⟩
    · intro b hb
      rcases Finset.mem_insert.mp hb with rfl | hb
      · exact le_max_left _ _
      · exact (ih.2 b hb).trans (le_max_right _ _)

theorem best_spec (v : Vec Ideal S240000x50 .f32) (n : Fin 240000) :
    ((bestR v (ix1 n) : EReal) = ⊥ ∨ ∃ j : Fin 50, (bestR v (ix1 n) : EReal) = v (ix2 n j)) ∧
      ∀ j : Fin 50, (v (ix2 n j) : EReal) ≤ bestR v (ix1 n) := by
  have e : (bestR v (ix1 n) : EReal)
      = (Finset.univ.filter fun i => reducesTo_S240000x50_S240000_d1.drop i = ix1 n).fold max ⊥ (v : S240000x50.Idx → EReal) := by
    have : bestR v (ix1 n) = Host.reduce (max : EReal → EReal → EReal) (v : S240000x50.Idx → EReal) (constant (F := Ideal) S_ .f32 0xFF800000#32)
      reducesTo_S240000x50_S240000_d1 h_S_ (ix1 n) := rfl
    rw [this, Host.reduce_eq_fold]
    congr 1
  rw [e]
  obtain ⟨h1, h2⟩ := fold_max (Finset.univ.filter fun i => reducesTo_S240000x50_S240000_d1.drop i = ix1 n) (v : S240000x50.Idx → EReal)
  refine ⟨?_, fun j => h2 _ (Finset.mem_filter.mpr ⟨Finset.mem_univ _, drop_row n j⟩)⟩
  rcases h1 with h1 | ⟨i, hi, h1⟩
  · exact .inl h1
  · refine .inr ⟨i 1, h1.trans ?_⟩
    exact congrArg v (row_of_drop i n (Finset.mem_filter.mp hi).2)

/-- What a two-operand reduction runs over at `j`: the pairs of the indices that reduce to `j`. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  rw [List.mem_map]
  constructor
  · rintro ⟨k, hk, rfl⟩
    exact ⟨s.rowMajor.symm k, of_decide_eq_true (List.mem_filter.mp hk).2, rfl⟩
  · rintro ⟨i, hd, rfl⟩
    refine ⟨s.rowMajor i, List.mem_filter.mpr ⟨List.mem_finRange _, ?_⟩, ?_⟩
    · rw [Equiv.symm_apply_apply]; exact decide_eq_true hd
    · rw [Equiv.symm_apply_apply]

/-- The reference's search as a fold over those pairs. -/
theorem argReduce_eq {s t u : Shape} {axes : List (Fin s.rank)} {h : s.ReducesTo axes t} {hu : 0 < u.numel} (x : FVec Ideal s .f32)
    (y : s.Idx → BitVec 32) (ix : u.Idx → Ideal .f32) (iy : u.Idx → BitVec 32) {a : EReal} {b : BitVec 32}
    (ha : ix (Shape.Idx.first hu) = a) (hb : iy (Shape.Idx.first hu) = b) (j : t.Idx) :
    Host.argReduce reducer_argmax_f32_i32 x y ix iy h hu j
      = (Host.argReduceFiber (x : s.Idx → EReal) y h j).foldl (reducer_argmax_f32_i32 (F := Ideal)) (a, b) := by
  rw [Ideal.argReduce_eq_reduce2, Host.reduce2_eq_foldl_fiber, ha, hb]

/-- The index the reference keeps is that of the search. -/
theorem first_head (v : Vec Ideal S240000x50 .f32) : firstR v = fun j =>
    (Host.argReduce (F := Ideal) (φ := .f32) reducer_argmax_f32_i32 v (iotaInDim S240000x50 32 1) (constant S_ .f32 0xFF800000#32)
      (constantI S_ 32 0#32) reducesTo_S240000x50_S240000_d1 h_S_ j).2 := rfl

theorem first_spec (v : Vec Ideal S240000x50 .f32) (n : Fin 240000) (hb : (bestR v (ix1 n) : EReal) ≠ ⊥) :
    ∃ j : Fin 50, firstR v (ix1 n) = BitVec.ofNat 32 j.val ∧ (bestR v (ix1 n) : EReal) = v (ix2 n j) ∧
      ∀ k : Fin 50, k < j → (v (ix2 n k) : EReal) < v (ix2 n j) := by
  obtain ⟨b1, b2⟩ := best_spec v n
  have mem : ∀ p, p ∈ Host.argReduceFiber (v : S240000x50.Idx → EReal) (iotaInDim S240000x50 32 1) reducesTo_S240000x50_S240000_d1 (ix1 n)
      ↔ ∃ j : Fin 50, p = ((v (ix2 n j) : EReal), BitVec.ofNat 32 j.val) := by
    intro p
    rw [mem_fiber]
    constructor
    · rintro ⟨i, hd, rfl⟩
      exact ⟨i 1, Prod.ext (congrArg v (row_of_drop i n hd)) rfl⟩
    · rintro ⟨j, rfl⟩
      exact ⟨ix2 n j, drop_row n j, rfl⟩
  have e : firstR v (ix1 n) = ((Host.argReduceFiber (v : S240000x50.Idx → EReal) (iotaInDim S240000x50 32 1)
      reducesTo_S240000x50_S240000_d1 (ix1 n)).foldl (reducer_argmax_f32_i32 (F := Ideal)) ((⊥ : EReal), 0#32)).2 := by
    have ha : constant (F := Ideal) S_ .f32 0xFF800000#32 (Shape.Idx.first h_S_) = (⊥ : EReal) := lit_negInf
    have hb' : constantI S_ 32 0#32 (Shape.Idx.first h_S_) = 0#32 := rfl
    rw [first_head v]
    beta_reduce
    rw [argReduce_eq v _ _ _ ha hb' (ix1 n)]
  obtain ⟨f1, f2, f3⟩ := fold_ahead (Host.argReduceFiber (v : S240000x50.Idx → EReal) (iotaInDim S240000x50 32 1)
      reducesTo_S240000x50_S240000_d1 (ix1 n)) ((⊥ : EReal), 0#32)
  rw [e]
  generalize List.foldl (reducer_argmax_f32_i32 (F := Ideal)) ((⊥ : EReal), 0#32) _ = r at f1 f2 f3 ⊢
  rcases b1 with b1 | ⟨m, b1⟩
  · exact absurd b1 hb
  have fm := f3 _ ((mem _).mpr ⟨m, rfl⟩)
  have le : (v (ix2 n m) : EReal) ≤ r.1 := by
    rcases fm with h | h
    · exact h.le
    · exact h.1.le
  rcases f1 with f1 | f1
  · rw [f1, ← b1] at le
    exact absurd (le_bot_iff.mp le) hb
  obtain ⟨j, rfl⟩ := (mem r).mp f1
  refine ⟨j, rfl, ?_, ?_⟩
  · rw [b1]; exact le_antisymm le (b1 ▸ b2 j)
  · intro k hk
    rcases f3 _ ((mem _).mpr ⟨k, rfl⟩) with h | ⟨_, h⟩
    · exact h
    · exfalso
      have t : ∀ a : Fin 50, (BitVec.ofNat 32 a.val).toInt = (a.val : ℤ) := by decide
      have : j.val ≤ k.val := by
        have h' : (BitVec.ofNat 32 j.val).toInt ≤ (BitVec.ofNat 32 k.val).toInt := h
        rw [t, t] at h'; exact_mod_cast h'
      exact absurd hk (not_lt.mpr this)

/-! ## The kernel's run through the boxes -/

/-- One step of the best so far. -/
theorem best_succ (B : ℕ → EReal) (g : ℕ → ℕ → EReal) (j : ℕ) :
    (best (F := Ideal) B g (j + 1) : EReal) = max (iou (F := Ideal) B (g j)) (best (F := Ideal) B g j) := by
  show Scalar.select (Ideal.cmp .ogt (iou (F := Ideal) B (g j)) (best (F := Ideal) B g j)) (iou (F := Ideal) B (g j)) (best (F := Ideal) B g j) = _
  by_cases h : (best (F := Ideal) B g j : EReal) < iou (F := Ideal) B (g j)
  · have c : Ideal.cmp .ogt (iou (F := Ideal) B (g j)) (best (F := Ideal) B g j) = 1#1 := by
      simp only [Ideal.cmp]; rw [decide_eq_true h]; rfl
    rw [c, max_eq_left h.le]; rfl
  · have c : Ideal.cmp .ogt (iou (F := Ideal) B (g j)) (best (F := Ideal) B g j) = 0#1 := by
      simp only [Ideal.cmp]; rw [decide_eq_false h]; rfl
    rw [c, max_eq_right (not_lt.mp h)]; rfl
theorem best_zero (B : ℕ → EReal) (g : ℕ → ℕ → EReal) : (best (F := Ideal) B g 0 : EReal) = ⊥ := lit_negInf

/-- The best of the first `n` is `⊥` or one of them, and no less than any. -/
theorem best_run (B : ℕ → EReal) (g : ℕ → ℕ → EReal) (n : ℕ) :
    ((best (F := Ideal) B g n : EReal) = ⊥ ∨ ∃ j < n, (best (F := Ideal) B g n : EReal) = iou (F := Ideal) B (g j)) ∧
      ∀ j < n, (iou (F := Ideal) B (g j) : EReal) ≤ best (F := Ideal) B g n := by
  induction n with
  | zero => exact ⟨.inl (best_zero B g), fun _ h => absurd h (Nat.not_lt_zero _)⟩
  | succ n ih =>
    rw [best_succ]
    refine ⟨?_, ?_⟩
    · rcases max_choice (iou (F := Ideal) B (g n) : EReal) (best (F := Ideal) B g n) with h | h
      · exact .inr ⟨n, Nat.lt_succ_self n, h⟩
      · rw [h]
        rcases ih.1 with k | ⟨j, hj, k⟩
        · exact .inl k
        · exact .inr ⟨j, hj.trans (Nat.lt_succ_self n), k⟩
    · intro j hj
      rcases Nat.lt_succ_iff_lt_or_eq.mp hj with h | rfl
      · exact (ih.2 j h).trans (le_max_right _ _)
      · exact le_max_left _ _

/-- One step of the entry that goes with the best so far. -/
theorem pick_succ (B : ℕ → EReal) (g : ℕ → ℕ → EReal) (v : ℕ → EReal) (j : ℕ) :
    (pick (F := Ideal) B g v (j + 1) : EReal)
      = if (best (F := Ideal) B g j : EReal) < iou (F := Ideal) B (g j) then v j else pick (F := Ideal) B g v j := by
  show Scalar.select (Ideal.cmp .ogt (iou (F := Ideal) B (g j)) (best (F := Ideal) B g j)) (v j) (pick (F := Ideal) B g v j) = _
  by_cases h : (best (F := Ideal) B g j : EReal) < iou (F := Ideal) B (g j)
  · have c : Ideal.cmp .ogt (iou (F := Ideal) B (g j)) (best (F := Ideal) B g j) = 1#1 := by
      simp only [Ideal.cmp]; rw [decide_eq_true h]; rfl
    rw [c, if_pos h]; rfl
  · have c : Ideal.cmp .ogt (iou (F := Ideal) B (g j)) (best (F := Ideal) B g j) = 0#1 := by
      simp only [Ideal.cmp]; rw [decide_eq_false h]; rfl
    rw [c, if_neg h]; rfl

/-- If box `J` is the first that is no worse than any, its entry is the one that is left. -/
theorem pick_first (B : ℕ → EReal) (g : ℕ → ℕ → EReal) (v : ℕ → EReal) (J N : ℕ) (hJ : J < N)
    (h0 : (iou (F := Ideal) B (g J) : EReal) ≠ ⊥) (h1 : ∀ j < J, (iou (F := Ideal) B (g j) : EReal) < iou (F := Ideal) B (g J))
    (h2 : ∀ j < N, (iou (F := Ideal) B (g j) : EReal) ≤ iou (F := Ideal) B (g J)) :
    (pick (F := Ideal) B g v N : EReal) = v J := by
  have key : ∀ n, J < n → n ≤ N → (pick (F := Ideal) B g v n : EReal) = v J := by
    intro n
    induction n with
    | zero => exact fun h => absurd h (Nat.not_lt_zero _)
    | succ n ih =>
      intro hn hN
      rw [pick_succ]
      rcases Nat.lt_succ_iff_lt_or_eq.mp hn with h | rfl
      · rw [if_neg, ih h (by omega)]
        exact not_lt.mpr ((h2 n (by omega)).trans ((best_run B g n).2 J h))
      · rw [if_pos]
        rcases (best_run B g J).1 with h | ⟨j, hj, h⟩
        · rw [h]; exact bot_lt_iff_ne_bot.mpr h0
        · rw [h]; exact h1 j hj
  exact key N hJ le_rfl

/-! ## The two together -/

/-- The reference's best overlap is the kernel's. -/
theorem best_eq (v : Vec Ideal S240000x50 .f32) (n : Fin 240000) (B : ℕ → EReal) (g : ℕ → ℕ → EReal)
    (h : ∀ j : Fin 50, (v (ix2 n j) : EReal) = iou (F := Ideal) B (g j.val)) :
    (bestR v (ix1 n) : EReal) = best (F := Ideal) B g 50 := by
  obtain ⟨a1, a2⟩ := best_spec v n
  obtain ⟨b1, b2⟩ := best_run B g 50
  refine le_antisymm ?_ ?_
  · rcases a1 with a | ⟨j, a⟩
    · rw [a]; exact bot_le
    · rw [a, h]; exact b2 j.val j.isLt
  · rcases b1 with b | ⟨j, hj, b⟩
    · rw [b]; exact bot_le
    · rw [b, ← h ⟨j, hj⟩]; exact a2 ⟨j, hj⟩

/-- The box the reference finds is the one whose entries the kernel keeps. -/
theorem first_eq (v : Vec Ideal S240000x50 .f32) (n : Fin 240000) (B : ℕ → EReal) (g : ℕ → ℕ → EReal)
    (h : ∀ j : Fin 50, (v (ix2 n j) : EReal) = iou (F := Ideal) B (g j.val)) (hb : (bestR v (ix1 n) : EReal) ≠ ⊥) :
    ∃ j : Fin 50, firstR v (ix1 n) = BitVec.ofNat 32 j.val ∧
      ∀ t : ℕ → EReal, (pick (F := Ideal) B g t 50 : EReal) = t j.val := by
  obtain ⟨j, h1, h2, h3⟩ := first_spec v n hb
  refine ⟨j, h1, fun t => pick_first B g t j.val 50 j.isLt ?_ ?_ ?_⟩
  · rw [← h, ← h2]; exact hb
  · intro k hk
    have := h3 ⟨k, hk.trans j.isLt⟩ hk
    rwa [h, h] at this
  · intro k hk
    have := (best_spec v n).2 ⟨k, hk⟩
    rwa [h2, h, h] at this

end Cert.ReferenceIdeal.Steps

end
-- ==== Proof.Ref.Overlap.lean ====
/- The reference's overlap of an anchor with a ground-truth box is the kernel's. -/
module

public import proofs.«01_k».proof.Proof.Ref.Stage
public import proofs.«01_k».proof.Proof.Ideal.Lane
public import Idealize.ShloMosaic.Lib.Pointwise

@[expose] public section

set_option maxRecDepth 16384

noncomputable section

namespace Cert.ReferenceIdeal.Steps

open Cert.ReferenceIdeal Cert.ReferenceIdeal.Gen Idealize.ShloMosaic Idealize.ShloMosaic.TcCoe
open Cert.KernelIdeal.Body (iou inter common area sarea lo hi slo shi num)

/-- Halving is the product with one half. -/
theorem half_eq (w : EReal) : Ideal.div w (Ideal.ofBits .f32 0x40000000#32) = w * Ideal.ofBits .f32 0x3F000000#32 := by
  have h2 : Ideal.ofBits .f32 0x40000000#32 = ((2 : ℝ) : EReal) := by
    simp [Ideal.ofBits, Ideal.ieee, -EReal.coe_mul]; norm_num
  have h1 : Ideal.ofBits .f32 0x3F000000#32 = ((2⁻¹ : ℝ) : EReal) := by
    simp [Ideal.ofBits, Ideal.ieee, -EReal.coe_mul]; norm_num
  rw [h2, h1, Ideal.div_coe (by norm_num), one_div]

/-- The integer zero is the number zero. -/
theorem sitofp_zero : (FloatOps.sitofp .f32 (0#32 : BitVec 32) : Ideal .f32) = (0 : EReal) := by
  show (((0#32 : BitVec 32).toInt : ℝ) : EReal) = 0
  simp

/-- Row `n` of an array of boxes. -/
def rowP (x : Vec Ideal S240000x7 .f32) (n : Fin 240000) (a : ℕ) : EReal := x (ix2 n (⟨a % 7, Nat.mod_lt a (by decide)⟩ : Fin 7))
/-- Row `j` of the ground truth. -/
def rowG (g : Vec Ideal S50x7 .f32) (j : Fin 50) (a : ℕ) : EReal := g (ix2 j (⟨a % 7, Nat.mod_lt a (by decide)⟩ : Fin 7))

theorem ious_at (x : Vec Ideal S240000x7 .f32) (g : Vec Ideal S50x7 .f32) (n : Fin 240000) (j : Fin 50) :
    ious x g (ix2 n j) = iou (F := Ideal) (rowP x n) (rowG g j) := by
  pointwise [ious, overlap, shared, clip, acrossP, downG, sideP, sideG, cornersP, cornersG, uprightP, uprightG, colP, colG, halfP, halfG]
  simp only [half_eq, sitofp_zero, max_comm (0 : EReal)]
  have h0 : Ideal.ofBits .f32 0x00000000#32 = 0 := by simp
  unfold iou inter area sarea common lo hi slo shi rowP rowG num
  simp only [Ideal.ofBits_def, Ideal.divf_def, Ideal.addf_def, Ideal.subf_def, Ideal.mulf_def, Ideal.maximumf_def, Ideal.minimumf_def, h0]
  rfl

end Cert.ReferenceIdeal.Steps

end
-- ==== Proof.Ref.Anchor.lean ====
/- What one anchor adds to the reference's sums is what it adds to the kernel's. -/
module

public import proofs.«01_k».proof.Proof.Ref.Place
public import proofs.«01_k».proof.Proof.Ref.Argmax
public import proofs.«01_k».proof.Proof.Ref.Overlap

@[expose] public section

set_option maxRecDepth 16384

noncomputable section

namespace Cert.ReferenceIdeal.Steps

open Cert.ReferenceIdeal Cert.ReferenceIdeal.Gen Idealize.ShloMosaic Idealize.ShloMosaic.TcCoe
open Cert.KernelIdeal.Body (num iou best beats pick pos neg valid focal focalSum smooth smoothSum bce ofBit lane clsBits entG entL)

/-! ## The arrays -/

/-- Every overlap. -/
def vi (x0 : Vec Ideal S6x200x200x7 .f32) (x3 : Vec Ideal S50x7 .f32) : Vec Ideal S240000x50 .f32 := ious (flat x0) x3
/-- The matched anchors. -/
def fp (x0 : Vec Ideal S6x200x200x7 .f32) (x3 : Vec Ideal S50x7 .f32) : Vec Ideal S240000 .i1 := posR (bestR (vi x0 x3))
/-- The background anchors. -/
def fn (x0 : Vec Ideal S6x200x200x7 .f32) (x3 : Vec Ideal S50x7 .f32) : Vec Ideal S240000 .i1 := negR (bestR (vi x0 x3))
/-- The anchors that take part. -/
def fv (x0 : Vec Ideal S6x200x200x7 .f32) (x3 : Vec Ideal S50x7 .f32) : Vec Ideal S6x200x200 .i1 :=
  ori (grid (fp x0 x3)) (grid (fn x0 x3))
/-- The box of each anchor. -/
def bx (x0 : Vec Ideal S6x200x200x7 .f32) (x3 : Vec Ideal S50x7 .f32) : Vec Ideal S6x200x200x7 .f32 :=
  shapeCast S6x200x200x7
    (boxSel (fp x0 x3) (Host.gather gather_S50x7_S240000x1_S240000x7_1_0_n_n_0_1_17 x3 (uprightP (F := Ideal) (wrap (firstR (vi x0 x3))))))
    shapeCasts_S240000x7_S6x200x200x7
/-- The label of each anchor. -/
def lb (x0 : Vec Ideal S6x200x200x7 .f32) (x3 : Vec Ideal S50x7 .f32) (x4 : Vec Ideal S50 .i32) : Vec Ideal S6x200x200 .i32 :=
  grid (F := Ideal) (labelSel (F := Ideal) (fp x0 x3)
    (Host.gather gather_S50_S240000x1_S240000_n_0_n_n_0_1_1 x4 (uprightP (F := Ideal) (wrap (firstR (vi x0 x3))))))
/-- The targets. -/
def tg (x0 : Vec Ideal S6x200x200x7 .f32) (x3 : Vec Ideal S50x7 .f32) (x4 : Vec Ideal S50 .i32) : Vec Ideal S6x10x200x200 .f32 :=
  targets (lb x0 x3 x4) (grid (fp x0 x3))
/-- The terms of the focal sum. -/
def clsArr (x0 : Vec Ideal S6x200x200x7 .f32) (x1 : Vec Ideal S6x10x200x200 .f32) (x3 : Vec Ideal S50x7 .f32) (x4 : Vec Ideal S50 .i32) :
    Vec Ideal S6x10x200x200 .f32 :=
  mulf (F := Ideal) (φ := .f32) (focalR (tg x0 x3 x4) (sigmoid x1) (entropy x1 (tg x0 x3 x4))) (everyClass (classAxis (fv x0 x3)))
/-- The terms of the sum of smooth distances. -/
def regArr (x0 : Vec Ideal S6x200x200x7 .f32) (x3 : Vec Ideal S50x7 .f32) : Vec Ideal S6x200x200x7 .f32 :=
  regTerm (subf (F := Ideal) (φ := .f32) x0 (bx x0 x3)) (grid (fp x0 x3))
/-- The terms of the objectness sum. -/
def objArr (x0 : Vec Ideal S6x200x200x7 .f32) (x2 : Vec Ideal S6x200x200 .f32) (x3 : Vec Ideal S50x7 .f32) : Vec Ideal S6x200x200 .f32 :=
  mulf (F := Ideal) (φ := .f32) (bceR x2 (grid (fp x0 x3))) (uitofp (F := Ideal) .f32 (fv x0 x3))

/-! ## One anchor -/

/-- The kernel's data of one anchor. -/
def Bk (x0 : Vec Ideal S6x200x200x7 .f32) (a : Fin 6) (h w : Fin 200) : ℕ → EReal := rowP (flat x0) (place a h w)
/-- Its scores. -/
def Sk (x1 : Vec Ideal S6x10x200x200 .f32) (a : Fin 6) (h w : Fin 200) (c : ℕ) : EReal :=
  x1 (ix4 a (⟨c % 10, Nat.mod_lt c (by decide)⟩ : Fin 10) h w)
/-- What the anchor adds to the kernel's sum `k`. -/
def laneOf (x0 : Vec Ideal S6x200x200x7 .f32) (x1 : Vec Ideal S6x10x200x200 .f32) (x2 : Vec Ideal S6x200x200 .f32)
    (x3 : Vec Ideal S50x7 .f32) (x4 : Vec Ideal S50 .i32) (a : Fin 6) (h w : Fin 200) (k : ℕ) : EReal :=
  lane (F := Ideal) 1#1 (Bk x0 a h w) (Sk x1 a h w) (x2 (ix3 a h w)) (entG (F := Ideal) x3) (entL (F := Ideal) (sitofp (F := Ideal) .f32 x4)) k

theorem entG_row (x3 : Vec Ideal S50x7 .f32) (j : Fin 50) : entG (F := Ideal) x3 j.val = rowG x3 j := by
  funext k
  unfold entG rowG
  congr 1
  funext a
  refine Fin.ext ?_
  have := Nat.mod_eq_of_lt j.isLt
  match a with
  | ⟨0, _⟩ => show j.val % 50 + 1 * 0 = j.val; omega
  | ⟨1, _⟩ => show k % 7 + 1 * 0 = k % 7; omega

theorem entL_at (x : Vec Ideal S50 .f32) (j : Fin 50) : entL (F := Ideal) x j.val = x (ix1 j) := by
  unfold entL
  congr 1
  funext a
  refine Fin.ext ?_
  have := Nat.mod_eq_of_lt j.isLt
  match a with
  | ⟨0, _⟩ => show j.val % 50 + 1 * 0 = j.val; omega

theorem vi_at (x0 : Vec Ideal S6x200x200x7 .f32) (x3 : Vec Ideal S50x7 .f32) (a : Fin 6) (h w : Fin 200) (j : Fin 50) :
    (vi x0 x3 (ix2 (place a h w) j) : EReal) = iou (F := Ideal) (Bk x0 a h w) (entG (F := Ideal) x3 j.val) := by
  rw [entG_row]; exact ious_at (flat x0) x3 (place a h w) j

theorem andi_one : ∀ b : BitVec 1, IntOp.andi b 1#1 = b := by decide

/-- The two thresholds at one anchor. -/
theorem posR_at (m : Vec Ideal S240000 .f32) (i : S240000.Idx) :
    posR m i = FloatOps.cmpf (F := Ideal) (φ := .f32) .oge (m i) (num 0x3F19999A#32) := rfl
theorem negR_at (m : Vec Ideal S240000 .f32) (i : S240000.Idx) :
    negR m i = FloatOps.cmpf (F := Ideal) (φ := .f32) .ole (m i) (num 0x3ECCCCCD#32) := rfl

theorem fp_at (x0 : Vec Ideal S6x200x200x7 .f32) (x3 : Vec Ideal S50x7 .f32) (a : Fin 6) (h w : Fin 200) :
    fp x0 x3 (ix1 (place a h w)) = pos (F := Ideal) 1#1 (Bk x0 a h w) (entG (F := Ideal) x3) := by
  unfold pos fp
  rw [andi_one, posR_at, best_eq (vi x0 x3) (place a h w) _ _ (vi_at x0 x3 a h w)]
theorem fn_at (x0 : Vec Ideal S6x200x200x7 .f32) (x3 : Vec Ideal S50x7 .f32) (a : Fin 6) (h w : Fin 200) :
    fn x0 x3 (ix1 (place a h w)) = neg (F := Ideal) 1#1 (Bk x0 a h w) (entG (F := Ideal) x3) := by
  unfold neg fn
  rw [andi_one, negR_at, best_eq (vi x0 x3) (place a h w) _ _ (vi_at x0 x3 a h w)]
theorem gp_at (x0 : Vec Ideal S6x200x200x7 .f32) (x3 : Vec Ideal S50x7 .f32) (a : Fin 6) (h w : Fin 200) :
    grid (F := Ideal) (fp x0 x3) (ix3 a h w) = pos (F := Ideal) 1#1 (Bk x0 a h w) (entG (F := Ideal) x3) := by
  rw [grid_at, fp_at]
theorem fv_at (x0 : Vec Ideal S6x200x200x7 .f32) (x3 : Vec Ideal S50x7 .f32) (a : Fin 6) (h w : Fin 200) :
    fv x0 x3 (ix3 a h w) = valid (F := Ideal) 1#1 (Bk x0 a h w) (entG (F := Ideal) x3) := by
  show IntOp.ori (grid (F := Ideal) (fp x0 x3) (ix3 a h w)) (grid (F := Ideal) (fn x0 x3) (ix3 a h w)) = _
  rw [gp_at, grid_at, fn_at]; rfl

/-- A matched anchor has a best overlap above `⊥`. -/
theorem best_of_pos (x0 : Vec Ideal S6x200x200x7 .f32) (x3 : Vec Ideal S50x7 .f32) (a : Fin 6) (h w : Fin 200)
    (hp : fp x0 x3 (ix1 (place a h w)) = 1#1) : (bestR (vi x0 x3) (ix1 (place a h w)) : EReal) ≠ ⊥ := by
  intro hb
  have hl : ¬ Ideal.ofBits .f32 0x3F19999A#32 ≤ ⊥ := by
    rw [le_bot_iff]; simp [Ideal.ofBits, Ideal.ieee, -EReal.coe_mul]
  unfold fp at hp
  rw [posR_at, hb] at hp
  have e : Ideal.cmp .oge (⊥ : EReal) (Ideal.ofBits .f32 0x3F19999A#32) = 1#1 := hp
  simp only [Ideal.cmp] at e
  rw [decide_eq_false hl] at e
  exact absurd e (by decide)

/-- The box and the label of a matched anchor. -/
theorem matched (x0 : Vec Ideal S6x200x200x7 .f32) (x3 : Vec Ideal S50x7 .f32) (x4 : Vec Ideal S50 .i32) (a : Fin 6) (h w : Fin 200)
    (hp : pos (F := Ideal) 1#1 (Bk x0 a h w) (entG (F := Ideal) x3) = 1#1) :
    ∃ j : Fin 50, (∀ k : Fin 7, (bx x0 x3 (ix4 a h w k) : EReal) = x3 (ix2 j k)) ∧ lb x0 x3 x4 (ix3 a h w) = x4 (ix1 j) ∧
      ∀ t : ℕ → EReal, (pick (F := Ideal) (Bk x0 a h w) (entG (F := Ideal) x3) t 50 : EReal) = t j.val := by
  have hp' : fp x0 x3 (ix1 (place a h w)) = 1#1 := (fp_at x0 x3 a h w).trans hp
  obtain ⟨j, h1, h2⟩ := first_eq (vi x0 x3) (place a h w) _ _ (vi_at x0 x3 a h w) (best_of_pos x0 x3 a h w hp')
  refine ⟨j, fun k => ?_, ?_, h2⟩
  · unfold bx
    rw [unflat_at, boxSel_at, if_pos hp', gatherBox_at x3 _ (place a h w) k j h1]
  · unfold lb
    rw [grid_at]
    unfold labelSel
    show Scalar.select (fp x0 x3 (ix1 (place a h w))) _ _ = _
    rw [hp', gatherLabel_at x4 _ (place a h w) j h1]; rfl

/-! ## The sums of one anchor -/

/-- A running sum as a sum. -/
theorem rec_sum (f : ℕ → EReal) (n : ℕ) :
    (Nat.rec (Ideal.ofBits .f32 0x00000000#32) (fun c (a : EReal) => a + f c) n : EReal) = ∑ c : Fin n, f c.val := by
  induction n with
  | zero => simp
  | succ n ih => rw [Fin.sum_univ_castSucc]; exact congrArg (· + f n) ih

/-- The two sums of one anchor as sums. -/
theorem focalSum_eq (b : BitVec 1) (l : EReal) (S : ℕ → EReal) :
    (focalSum (F := Ideal) b l S 10 : EReal) = ∑ c : Fin 10, (focal (F := Ideal)
      (IntOp.andi b (FloatOps.cmpf (F := Ideal) (φ := .f32) .oeq l (num (clsBits c.val)))) (S c.val) : EReal) :=
  rec_sum (fun c => focal (F := Ideal) (IntOp.andi b (FloatOps.cmpf (F := Ideal) (φ := .f32) .oeq l (num (clsBits c)))) (S c)) 10
theorem smoothSum_eq (B : ℕ → EReal) (g : ℕ → ℕ → EReal) :
    (smoothSum (F := Ideal) B g 7 : EReal) = ∑ k : Fin 7, (smooth (F := Ideal)
      (FloatOps.subf (F := Ideal) (φ := .f32) (B k.val) (pick (F := Ideal) B g (fun j => g j k.val) 50)) : EReal) :=
  rec_sum (fun k => smooth (F := Ideal) (FloatOps.subf (F := Ideal) (φ := .f32) (B k) (pick (F := Ideal) B g (fun j => g j k) 50))) 7

theorem sum_mul_bit {n : ℕ} (b : BitVec 1) (f : Fin n → EReal) :
    ∑ c, f c * (ofBit (F := Ideal) b : EReal) = Scalar.select b (∑ c, f c) (Ideal.ofBits .f32 0x00000000#32) := by
  rw [← mul_ofBit]
  rcases bit_cases b with rfl | rfl
  · simp only [ofBit_zero, mul_zero, Finset.sum_const_zero]
  · simp only [ofBit_one, mul_one]

theorem clsBits_eq : ∀ c : Fin 10, (num (F := Ideal) (clsBits c.val) : EReal) = ((c.val : ℝ) : EReal) := by
  intro c
  show Ideal.ofBits .f32 (clsBits c.val) = _
  fin_cases c <;> simp [clsBits, Ideal.ofBits, Ideal.ieee, -EReal.coe_mul] <;> norm_num

/-- A label is a class as an integer exactly when it is as a number. -/
theorem label_eq (l : BitVec 32) (c : Fin 10) :
    IntOp.cmpi .eq l (BitVec.ofNat 32 c.val) = Ideal.cmp .oeq ((l.toInt : ℝ) : EReal) (num (F := Ideal) (clsBits c.val)) := by
  rw [clsBits_eq]
  have hc : (BitVec.ofNat 32 c.val).toInt = (c.val : ℤ) := by revert c; decide
  have : l = BitVec.ofNat 32 c.val ↔ ((l.toInt : ℝ) : EReal) = ((c.val : ℝ) : EReal) := by
    rw [← BitVec.toInt_inj, hc, EReal.coe_eq_coe_iff]
    exact_mod_cast Iff.rfl
  simp only [IntOp.cmpi, Ideal.cmp]
  congr 1
  rw [Bool.eq_iff_iff, beq_iff_eq, decide_eq_true_iff, this]

theorem tg_at (x0 : Vec Ideal S6x200x200x7 .f32) (x3 : Vec Ideal S50x7 .f32) (x4 : Vec Ideal S50 .i32) (a : Fin 6) (c : Fin 10) (h w : Fin 200) :
    (tg x0 x3 x4 (ix4 a c h w) : EReal) = ofBit (F := Ideal) (IntOp.andi (pos (F := Ideal) 1#1 (Bk x0 a h w) (entG (F := Ideal) x3))
      (FloatOps.cmpf (F := Ideal) .oeq (pick (F := Ideal) (Bk x0 a h w) (entG (F := Ideal) x3) (entL (F := Ideal) (sitofp (F := Ideal) .f32 x4)) 50)
        (num (clsBits c.val)))) := by
  unfold tg
  rw [targets_at, gp_at]
  rcases bit_cases (pos (F := Ideal) 1#1 (Bk x0 a h w) (entG (F := Ideal) x3)) with hp | hp
  · have z : ∀ b : BitVec 1, IntOp.andi 0#1 b = 0#1 := by decide
    rw [hp, z, ofBit_zero, mul_zero]
  · have z : ∀ b : BitVec 1, IntOp.andi 1#1 b = b := by decide
    obtain ⟨j, _, h2, h3⟩ := matched x0 x3 x4 a h w hp
    rw [hp, z, ofBit_one, mul_one, h2, h3, entL_at, label_eq]
    rfl

theorem cls_anchor (x0 : Vec Ideal S6x200x200x7 .f32) (x1 : Vec Ideal S6x10x200x200 .f32) (x2 : Vec Ideal S6x200x200 .f32)
    (x3 : Vec Ideal S50x7 .f32) (x4 : Vec Ideal S50 .i32) (a : Fin 6) (h w : Fin 200) :
    ∑ c : Fin 10, (clsArr x0 x1 x3 x4 (ix4 a c h w) : EReal) = laneOf x0 x1 x2 x3 x4 a h w 0 := by
  have e : ∀ c : Fin 10, (clsArr x0 x1 x3 x4 (ix4 a c h w) : EReal)
      = (focal (F := Ideal) (IntOp.andi (pos (F := Ideal) 1#1 (Bk x0 a h w) (entG (F := Ideal) x3))
      (FloatOps.cmpf (F := Ideal) .oeq (pick (F := Ideal) (Bk x0 a h w) (entG (F := Ideal) x3) (entL (F := Ideal) (sitofp (F := Ideal) .f32 x4)) 50)
        (num (clsBits c.val)))) (Sk x1 a h w c.val) : EReal) * (ofBit (F := Ideal) (valid (F := Ideal) 1#1 (Bk x0 a h w) (entG (F := Ideal) x3)) : EReal) := by
    intro c
    refine congrArg₂ (· * ·) ((focal_at (tg x0 x3 x4) x1 _ (ix4 a c h w) (tg_at x0 x3 x4 a c h w)).trans ?_) ?_
    · have : (⟨c.val % 10, Nat.mod_lt c.val (by decide)⟩ : Fin 10) = c := Fin.ext (Nat.mod_eq_of_lt c.isLt)
      unfold Sk
      rw [this]
    · exact (everyClass_at _ a c h w).trans (by rw [classAxis_at, fv_at])
  rw [Finset.sum_congr rfl fun c _ => e c, sum_mul_bit]
  unfold laneOf lane
  rw [focalSum_eq]
  rfl

theorem reg_anchor (x0 : Vec Ideal S6x200x200x7 .f32) (x1 : Vec Ideal S6x10x200x200 .f32) (x2 : Vec Ideal S6x200x200 .f32)
    (x3 : Vec Ideal S50x7 .f32) (x4 : Vec Ideal S50 .i32) (a : Fin 6) (h w : Fin 200) :
    ∑ k : Fin 7, (regArr x0 x3 (ix4 a h w k) : EReal) = laneOf x0 x1 x2 x3 x4 a h w 1 := by
  have e : ∀ k : Fin 7, (regArr x0 x3 (ix4 a h w k) : EReal)
      = (smooth (F := Ideal) (subf (F := Ideal) (φ := .f32) x0 (bx x0 x3) (ix4 a h w k)) : EReal) * (ofBit (F := Ideal) (pos (F := Ideal) 1#1 (Bk x0 a h w) (entG (F := Ideal) x3)) : EReal) := by
    intro k
    unfold regArr
    rw [regTerm_at, gp_at]
  rw [Finset.sum_congr rfl fun c _ => e c, sum_mul_bit]
  show _ = Scalar.select (pos (F := Ideal) 1#1 (Bk x0 a h w) (entG (F := Ideal) x3)) (smoothSum (F := Ideal) (Bk x0 a h w) (entG (F := Ideal) x3) 7) (Ideal.ofBits .f32 0x00000000#32)
  rcases bit_cases (pos (F := Ideal) 1#1 (Bk x0 a h w) (entG (F := Ideal) x3)) with hp | hp
  · rw [hp]; rfl
  · obtain ⟨j, h1, _, h3⟩ := matched x0 x3 x4 a h w hp
    rw [hp]
    rw [smoothSum_eq]
    refine congrArg (fun s => Scalar.select 1#1 s (Ideal.ofBits .f32 0x00000000#32)) (Finset.sum_congr rfl fun k _ => ?_)
    have hk : (⟨k.val % 7, Nat.mod_lt k.val (by decide)⟩ : Fin 7) = k := Fin.ext (Nat.mod_eq_of_lt k.isLt)
    refine congrArg (smooth (F := Ideal)) (congrArg₂ (· - ·) ?_ ?_)
    · show (x0 (ix4 a h w k) : EReal) = flat x0 (ix2 (place a h w) _)
      rw [hk, flat_at]
    · rw [h1, h3, entG_row]
      show x3 (ix2 j k) = x3 (ix2 j _)
      rw [hk]

theorem obj_anchor (x0 : Vec Ideal S6x200x200x7 .f32) (x1 : Vec Ideal S6x10x200x200 .f32) (x2 : Vec Ideal S6x200x200 .f32)
    (x3 : Vec Ideal S50x7 .f32) (x4 : Vec Ideal S50 .i32) (a : Fin 6) (h w : Fin 200) :
    (objArr x0 x2 x3 (ix3 a h w) : EReal) = laneOf x0 x1 x2 x3 x4 a h w 2 := by
  show (bceR x2 (grid (F := Ideal) (fp x0 x3)) (ix3 a h w) : EReal) * (FloatOps.uitofp .f32 (fv x0 x3 (ix3 a h w)) : Ideal .f32) = _
  rw [bce_at, uitofp_bit, gp_at, fv_at, mul_ofBit]
  rfl

end Cert.ReferenceIdeal.Steps

end
-- ==== Proof.Ref.Sum.lean ====
/- The reference's sums and counts over all anchors, and its quotients, are the kernel's. -/
module

public import proofs.«01_k».proof.Proof.Ref.Anchor
public import Idealize.ShloMosaic.Lib.IdealHost

@[expose] public section

set_option maxRecDepth 16384

noncomputable section

namespace Cert.ReferenceIdeal.Steps

open Cert.ReferenceIdeal Cert.ReferenceIdeal.Gen Idealize.ShloMosaic Idealize.ShloMosaic.TcCoe
open Cert.KernelIdeal.Body (num pos valid ofBit lane entG entL clsOf regOf objOf totalOf)

/-! ## Sums over an array -/

/-- A sum over a whole array. -/
theorem total_sum {s : Shape} {axes : List (Fin s.rank)} (x : FVec Ideal s .f32) (h : s.ReducesTo axes S_) (j : S_.Idx) :
    (Host.reduceAdd x (constant (F := Ideal) S_ .f32 0x00000000#32) h h_S_ j : EReal) = ∑ i, (x i : EReal) := by
  rw [ValueIdx.hostReduceAdd_apply, Ideal.hostReduceAdd_total h (fun b => b.elim0)]
  show Ideal.ofBits .f32 0x00000000#32 + _ = _
  simp

theorem fold_bits {ι : Type} (s : Finset ι) (f : ι → BitVec 1) :
    s.fold IntOp.addi 0#32 (fun i => (f i).setWidth 32) = BitVec.ofNat 32 (∑ i ∈ s, (f i).toNat) := by
  classical
  induction s using Finset.induction_on with
  | empty => rfl
  | insert a s ha ih =>
    rw [Finset.fold_insert ha, ih, Finset.sum_insert ha, BitVec.ofNat_add]
    refine congrArg (· + _) ?_
    generalize f a = b
    revert b; decide

/-- A count over a whole array. -/
theorem total_count {s : Shape} {axes : List (Fin s.rank)} (f : IVec s 1) (h : s.ReducesTo axes S_) (j : S_.Idx) :
    Host.reduce IntOp.addi (extui 32 f natLt_1_32) (constantI S_ 32 0#32) h h_S_ j = BitVec.ofNat 32 (∑ i, (f i).toNat) := by
  rw [Host.reduce_eq_fold, Finset.filter_true_of_mem fun i _ => funext fun b => b.elim0]
  exact fold_bits Finset.univ f

/-! ## The sums over all anchors -/

variable (x0 : Vec Ideal S6x200x200x7 .f32) (x1 : Vec Ideal S6x10x200x200 .f32) (x2 : Vec Ideal S6x200x200 .f32)
    (x3 : Vec Ideal S50x7 .f32) (x4 : Vec Ideal S50 .i32)

/-- Sum `k` over all anchors. -/
def all (k : ℕ) : EReal := ∑ a : Fin 6, ∑ h : Fin 200, ∑ w : Fin 200, laneOf x0 x1 x2 x3 x4 a h w k
/-- The number of anchors with a flag. -/
def cnt (b : Fin 6 → Fin 200 → Fin 200 → BitVec 1) : ℕ := ∑ a : Fin 6, ∑ h : Fin 200, ∑ w : Fin 200, (b a h w).toNat
/-- The flags of the matched anchors. -/
def posB (a : Fin 6) (h w : Fin 200) : BitVec 1 := pos (F := Ideal) 1#1 (Bk x0 a h w) (entG (F := Ideal) x3)
/-- The flags of the anchors that take part. -/
def valB (a : Fin 6) (h w : Fin 200) : BitVec 1 := valid (F := Ideal) 1#1 (Bk x0 a h w) (entG (F := Ideal) x3)

theorem cls_sum (j : S_.Idx) : (Host.reduceAdd (clsArr x0 x1 x3 x4) (constant (F := Ideal) S_ .f32 0x00000000#32)
    reducesTo_S6x10x200x200_S_d0_1_2_3 h_S_ j : EReal) = all x0 x1 x2 x3 x4 0 := by
  rw [total_sum]
  refine (sum_idx4 _).trans ?_
  unfold all
  refine Finset.sum_congr rfl fun a _ => ?_
  rw [Finset.sum_comm]
  refine Finset.sum_congr rfl fun h _ => ?_
  rw [Finset.sum_comm]
  exact Finset.sum_congr rfl fun w _ => cls_anchor x0 x1 x2 x3 x4 a h w

theorem reg_sum (j : S_.Idx) : (Host.reduceAdd (regArr x0 x3) (constant (F := Ideal) S_ .f32 0x00000000#32)
    reducesTo_S6x200x200x7_S_d0_1_2_3 h_S_ j : EReal) = all x0 x1 x2 x3 x4 1 := by
  rw [total_sum]
  refine (sum_idx4 _).trans ?_
  unfold all
  exact Finset.sum_congr rfl fun a _ => Finset.sum_congr rfl fun h _ => Finset.sum_congr rfl fun w _ => reg_anchor x0 x1 x2 x3 x4 a h w

theorem obj_sum (j : S_.Idx) : (Host.reduceAdd (objArr x0 x2 x3) (constant (F := Ideal) S_ .f32 0x00000000#32)
    reducesTo_S6x200x200_S_d0_1_2 h_S_ j : EReal) = all x0 x1 x2 x3 x4 2 := by
  rw [total_sum]
  refine (sum_idx3 _).trans ?_
  unfold all
  exact Finset.sum_congr rfl fun a _ => Finset.sum_congr rfl fun h _ => Finset.sum_congr rfl fun w _ => obj_anchor x0 x1 x2 x3 x4 a h w

theorem pos_count (j : S_.Idx) : Host.reduce IntOp.addi (extui 32 (grid (F := Ideal) (fp x0 x3)) natLt_1_32) (constantI S_ 32 0#32)
    reducesTo_S6x200x200_S_d0_1_2 h_S_ j = BitVec.ofNat 32 (cnt (posB x0 x3)) := by
  rw [total_count]
  refine congrArg (BitVec.ofNat 32) ((sum_idx3 _).trans ?_)
  unfold cnt posB
  exact Finset.sum_congr rfl fun a _ => Finset.sum_congr rfl fun h _ => Finset.sum_congr rfl fun w _ => congrArg BitVec.toNat (gp_at x0 x3 a h w)

theorem val_count (j : S_.Idx) : Host.reduce IntOp.addi (extui 32 (fv x0 x3) natLt_1_32) (constantI S_ 32 0#32)
    reducesTo_S6x200x200_S_d0_1_2 h_S_ j = BitVec.ofNat 32 (cnt (valB x0 x3)) := by
  rw [total_count]
  refine congrArg (BitVec.ofNat 32) ((sum_idx3 _).trans ?_)
  unfold cnt valB
  exact Finset.sum_congr rfl fun a _ => Finset.sum_congr rfl fun h _ => Finset.sum_congr rfl fun w _ => congrArg BitVec.toNat (fv_at x0 x3 a h w)

theorem cls_count (j : S_.Idx) : Host.reduce IntOp.addi (extui 32 (classAxis (F := Ideal) (fv x0 x3)) natLt_1_32) (constantI S_ 32 0#32)
    reducesTo_S6x1x200x200_S_d0_1_2_3 h_S_ j = BitVec.ofNat 32 (cnt (valB x0 x3)) := by
  rw [total_count]
  refine congrArg (BitVec.ofNat 32) ((sum_idx4 _).trans ?_)
  unfold cnt valB
  refine Finset.sum_congr rfl fun a _ => (Fin.sum_univ_one _).trans (Finset.sum_congr rfl fun h _ => Finset.sum_congr rfl fun w _ => congrArg BitVec.toNat ?_)
  exact (classAxis_at _ a h w).trans (fv_at x0 x3 a h w)

/-! ## Counts as numbers -/

theorem cnt_le (b : Fin 6 → Fin 200 → Fin 200 → BitVec 1) : cnt b ≤ 240000 := by
  have h1 : cnt b ≤ ∑ _a : Fin 6, ∑ _h : Fin 200, ∑ _w : Fin 200, 1 :=
    Finset.sum_le_sum fun a _ => Finset.sum_le_sum fun h _ => Finset.sum_le_sum fun w _ => by have := (b a h w).isLt; omega
  simpa using h1

theorem ofBit_nat (b : BitVec 1) : (ofBit (F := Ideal) b : EReal) = ((b.toNat : ℕ) : EReal) := by
  rcases bit_cases b with rfl | rfl
  · rw [ofBit_zero]; simp
  · rw [ofBit_one]; simp

theorem cnt_sum (b : Fin 6 → Fin 200 → Fin 200 → BitVec 1) :
    ∑ a : Fin 6, ∑ h : Fin 200, ∑ w : Fin 200, (ofBit (F := Ideal) (b a h w) : EReal) = ((cnt b : ℕ) : EReal) := by
  unfold cnt
  rw [Nat.cast_sum]
  refine Finset.sum_congr rfl fun a _ => ?_
  rw [Nat.cast_sum]
  refine Finset.sum_congr rfl fun h _ => ?_
  rw [Nat.cast_sum]
  exact Finset.sum_congr rfl fun w _ => ofBit_nat _

theorem all_three : all x0 x1 x2 x3 x4 3 = ((cnt (posB x0 x3) : ℕ) : EReal) := cnt_sum (posB x0 x3)
theorem all_four : all x0 x1 x2 x3 x4 4 = ((cnt (valB x0 x3) : ℕ) : EReal) := cnt_sum (valB x0 x3)

theorem toInt_small (n : ℕ) (h : n < 2147483648) : (BitVec.ofNat 32 n).toInt = (n : ℤ) := by
  have e : n % 2 ^ 32 = n := Nat.mod_eq_of_lt (by omega)
  rw [BitVec.toInt_eq_toNat_of_lt (by rw [BitVec.toNat_ofNat, e]; omega), BitVec.toNat_ofNat, e]

theorem sitofp_nat (n : ℕ) (h : n < 2147483648) :
    (FloatOps.sitofp (F := Ideal) .f32 (BitVec.ofNat 32 n) : EReal) = ((n : ℕ) : EReal) := by
  show (((BitVec.ofNat 32 n).toInt : ℝ) : EReal) = _
  rw [toInt_small n h]
  simp

theorem sgt_nat (n : ℕ) (h : n < 2147483648) :
    IntOp.cmpi .sgt (BitVec.ofNat 32 n) 0#32 = Ideal.cmp .ogt ((n : ℕ) : EReal) (Ideal.ofBits .f32 0x00000000#32) := by
  have z : Ideal.ofBits .f32 0x00000000#32 = 0 := by simp
  simp only [IntOp.cmpi, Ideal.cmp, z]
  congr 1
  rw [Bool.eq_iff_iff, decide_eq_true_iff, BitVec.slt_iff_toInt_lt, toInt_small n h]
  simp

theorem maxsi_nat (n : ℕ) (h : n < 2147483648) : IntOp.maxsi (BitVec.ofNat 32 n) 1#32 = BitVec.ofNat 32 (max n 1) := by
  unfold IntOp.maxsi
  have e : (1#32).slt (BitVec.ofNat 32 n) = true ↔ 1 < n := by
    rw [BitVec.slt_iff_toInt_lt, toInt_small n h]
    show (1 : ℤ) < n ↔ _
    omega
  by_cases h1 : 1 < n
  · rw [if_pos (e.mpr h1), max_eq_left (by omega)]
  · rw [if_neg (fun h2 => h1 (e.mp h2)), max_eq_right (by omega)]

theorem nat_max (m n : ℕ) : ((max m n : ℕ) : EReal) = max ((m : ℕ) : EReal) ((n : ℕ) : EReal) := by
  rcases le_total m n with h | h
  · rw [max_eq_right h, max_eq_right (EReal.natCast_le_iff.mpr h)]
  · rw [max_eq_left h, max_eq_left (EReal.natCast_le_iff.mpr h)]

theorem lit_seven : Ideal.ofBits .f32 0x40E00000#32 = ((7 : ℕ) : EReal) := by
  have e : Ideal.ofBits .f32 0x40E00000#32 = ((7 : ℝ) : EReal) := by
    simp [Ideal.ofBits, Ideal.ieee, -EReal.coe_mul]; norm_num
  rw [e, ← EReal.coe_natCast]; norm_num

/-! ## The four results -/

/-- The mean smooth distance from a count and a sum. -/
theorem regQuot_eq (n : Vec Ideal S_ .i32) (s : Vec Ideal S_ .f32) (N : ℕ) (hN : N ≤ 240000) (j : S_.Idx)
    (hn : n j = BitVec.ofNat 32 N) : (regQuot n s j : EReal) = regOf (F := Ideal) ((N : ℕ) : EReal) (s j) := by
  have e : (regQuot n s j : EReal) = Scalar.select (IntOp.cmpi .sgt (n j) 0#32)
      (Ideal.div (s j) (FloatOps.sitofp (F := Ideal) .f32 (IntOp.maxsi (IntOp.muli (n j) 7#32) 1#32))) (Ideal.ofBits .f32 0x00000000#32) := rfl
  have e1 : Ideal.ofBits .f32 0x3F800000#32 = ((1 : ℕ) : EReal) := by simp
  have m7 : IntOp.muli (BitVec.ofNat 32 N) 7#32 = BitVec.ofNat 32 (N * 7) := (BitVec.ofNat_mul N 7).symm
  rw [e, hn, sgt_nat N (by omega), m7, maxsi_nat _ (by omega), sitofp_nat _ (by omega), nat_max, EReal.natCast_mul, ← lit_seven, ← e1]
  rfl

/-- The mean objectness loss from a count and a sum. -/
theorem objQuot_eq (n : Vec Ideal S_ .i32) (s : Vec Ideal S_ .f32) (N : ℕ) (hN : N ≤ 240000) (j : S_.Idx)
    (hn : n j = BitVec.ofNat 32 N) : (objQuot n s j : EReal) = objOf (F := Ideal) ((N : ℕ) : EReal) (s j) := by
  have e : (objQuot n s j : EReal) = Scalar.select (IntOp.cmpi .sgt (n j) 0#32)
      (Ideal.div (s j) (FloatOps.sitofp (F := Ideal) .f32 (IntOp.maxsi (n j) 1#32))) (Ideal.ofBits .f32 0x00000000#32) := rfl
  have e1 : Ideal.ofBits .f32 0x3F800000#32 = ((1 : ℕ) : EReal) := by simp
  rw [e, hn, sgt_nat N (by omega), maxsi_nat _ (by omega), sitofp_nat _ (by omega), nat_max, ← e1]
  rfl

/-- The mean focal loss from a count and a sum. -/
theorem clsQuot_eq (n : Vec Ideal S_ .i32) (s : Vec Ideal S_ .f32) (N : ℕ) (hN : N ≤ 240000) (j : S_.Idx)
    (hn : n j = BitVec.ofNat 32 N) : (clsQuot n s j : EReal) = clsOf (F := Ideal) ((N : ℕ) : EReal) (s j) := by
  have e : (clsQuot n s j : EReal) = Ideal.div (s j) ((FloatOps.sitofp (F := Ideal) .f32 (n j) : EReal) + Ideal.ofBits .f32 0x358637BD#32) := rfl
  rw [e, hn, sitofp_nat _ (by omega)]
  rfl

end Cert.ReferenceIdeal.Steps

end
-- ==== Proof.Ideal.Host.lean ====
/- The kernel's arrays, read at the row and lane of an anchor, are the arguments at that anchor. -/
module

public import proofs.«01_k».proof.Proof.Ideal.Track
public import proofs.«01_k».proof.Proof.Ref.Sum

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem Idealize.ShloMosaic.StableHlo
open Cert.ReferenceIdeal.Steps (place laneOf Bk Sk rowP flat flat_at)

/-! ## The arrays the region walks, from the arguments -/

section
variable {F : FTy → Type} [FloatOps F] (W : Valuation τ sig (Elt F))

theorem pre_0 : after (List.flatten [hostOps0 (F := F)]) W (Proc.devRef .tc main_v2)
    = shapeCast S7x1875x128 (transpose S7x240000 [1, 0]
        (shapeCast S240000x7 (W (Proc.devRef .tc main_arg0) : Vec F S6x200x200x7 .f32) shapeCasts_S6x200x200x7_S240000x7)
        transposes_S240000x7_S7x240000_1_0) shapeCasts_S7x240000_S7x1875x128 := by sl_kernel_rfl
theorem pre_1 : after (List.flatten [hostOps0 (F := F)]) W (Proc.devRef .tc main_v4)
    = shapeCast S10x1875x128 (transpose S10x6x200x200 [1, 0, 2, 3] (W (Proc.devRef .tc main_arg1) : Vec F S6x10x200x200 .f32)
        transposes_S6x10x200x200_S10x6x200x200_1_0_2_3) shapeCasts_S10x6x200x200_S10x1875x128 := by sl_kernel_rfl
theorem pre_2 : after (List.flatten [hostOps0 (F := F)]) W (Proc.devRef .tc main_v5)
    = shapeCast S1875x128 (W (Proc.devRef .tc main_arg2) : Vec F S6x200x200 .f32) shapeCasts_S6x200x200_S1875x128 := by sl_kernel_rfl
theorem pre_3 : after (List.flatten [hostOps0 (F := F)]) W (Proc.devRef .tc main_arg3) = W (Proc.devRef .tc main_arg3) := by sl_kernel_rfl
theorem pre_4 : after (List.flatten [hostOps0 (F := F)]) W (Proc.devRef .tc main_v6)
    = sitofp .f32 (W (Proc.devRef .tc main_arg4) : Vec F S50 .i32) := by sl_kernel_rfl
end

/-! ## Row and lane of an anchor -/

/-- The row of the anchor of shape `a` at row `h`, column `w`. -/
def rowOf (a : Fin 6) (h w : Fin 200) : Fin 1875 := ⟨(a.val * 40000 + h.val * 200 + w.val) / 128, by omega⟩
/-- Its lane. -/
def lanOf (a : Fin 6) (h w : Fin 200) : Fin 128 := ⟨(a.val * 40000 + h.val * 200 + w.val) % 128, by omega⟩

theorem num_of (a : Fin 6) (h w : Fin 200) : (rowOf a h w).val * 128 + (lanOf a h w).val = a.val * 40000 + h.val * 200 + w.val := by
  unfold rowOf lanOf; dsimp only; omega

theorem read_0 (x : Vec Ideal S6x200x200x7 .f32) (k : Fin 7) (a : Fin 6) (h w : Fin 200) :
    shapeCast S7x1875x128 (transpose S7x240000 [1, 0] (shapeCast S240000x7 x shapeCasts_S6x200x200x7_S240000x7)
        transposes_S240000x7_S7x240000_1_0) shapeCasts_S7x240000_S7x1875x128 (ix3 k (rowOf a h w) (lanOf a h w)) = x (ix4 a h w k) := by
  pointwise [rowOf, lanOf]
theorem read_1 (x : Vec Ideal S6x10x200x200 .f32) (k : Fin 10) (a : Fin 6) (h w : Fin 200) :
    shapeCast S10x1875x128 (transpose S10x6x200x200 [1, 0, 2, 3] x transposes_S6x10x200x200_S10x6x200x200_1_0_2_3)
        shapeCasts_S10x6x200x200_S10x1875x128 (ix3 k (rowOf a h w) (lanOf a h w)) = x (ix4 a k h w) := by
  have e : Shape.reshapeEquiv shapeCasts_S10x6x200x200_S10x1875x128 (ix3 k (rowOf a h w) (lanOf a h w)) = ix4 k a h w :=
    Shape.reshapeEquiv_eq_of_rowMajor _ (by
      rw [Shape.rowMajor_val_three, Shape.rowMajor_val_four]
      have := num_of a h w
      show ((k.val * 6 + a.val) * 200 + h.val) * 200 + w.val = (k.val * 1875 + (rowOf a h w).val) * 128 + (lanOf a h w).val
      omega)
  refine (congrArg (transpose S10x6x200x200 [1, 0, 2, 3] x transposes_S6x10x200x200_S10x6x200x200_1_0_2_3) e).trans ?_
  pointwise
theorem read_2 (x : Vec Ideal S6x200x200 .f32) (a : Fin 6) (h w : Fin 200) :
    shapeCast S1875x128 x shapeCasts_S6x200x200_S1875x128 (ix2 (rowOf a h w) (lanOf a h w)) = x (ix3 a h w) := by
  pointwise [rowOf, lanOf]

/-! ## The sums -/

/-- What the anchor adds, from the kernel's arrays. -/
theorem anchor_at (x0 : Vec Ideal S6x200x200x7 .f32) (x1 : Vec Ideal S6x10x200x200 .f32) (x2 : Vec Ideal S6x200x200 .f32)
    (x3 : Vec Ideal S50x7 .f32) (x4 : Vec Ideal S50 .i32) (A0 : Vec Ideal S7x1875x128 .f32) (A1 : Vec Ideal S10x1875x128 .f32)
    (A2 : Vec Ideal S1875x128 .f32)
    (h0 : A0 = shapeCast S7x1875x128 (transpose S7x240000 [1, 0] (shapeCast S240000x7 x0 shapeCasts_S6x200x200x7_S240000x7)
        transposes_S240000x7_S7x240000_1_0) shapeCasts_S7x240000_S7x1875x128)
    (h1 : A1 = shapeCast S10x1875x128 (transpose S10x6x200x200 [1, 0, 2, 3] x1 transposes_S6x10x200x200_S10x6x200x200_1_0_2_3)
        shapeCasts_S10x6x200x200_S10x1875x128)
    (h2 : A2 = shapeCast S1875x128 x2 shapeCasts_S6x200x200_S1875x128) (a : Fin 6) (h w : Fin 200) (k : ℕ) :
    (anchor A0 A1 A2 x3 (sitofp (F := Ideal) .f32 x4) (rowOf a h w) (lanOf a h w) k : EReal) = laneOf x0 x1 x2 x3 x4 a h w k := by
  have e0 : (fun b : ℕ => A0 (ix3 (⟨b % 7, Nat.mod_lt b (by decide)⟩ : Fin 7) (rowOf a h w) (lanOf a h w))) = Bk x0 a h w := by
    funext b
    rw [h0, read_0]
    exact (flat_at x0 a h w _).symm
  have e1 : (fun b : ℕ => A1 (ix3 (⟨b % 10, Nat.mod_lt b (by decide)⟩ : Fin 10) (rowOf a h w) (lanOf a h w))) = Sk x1 a h w := by
    funext b
    rw [h1, read_1]
    rfl
  have e2 : A2 (ix2 (rowOf a h w) (lanOf a h w)) = x2 (ix3 a h w) := by rw [h2, read_2]
  unfold anchor laneOf
  rw [e0, e1, e2]

end Cert.KernelIdeal.Body

end
-- ==== Proof.Ref.Tiles.lean ====
/- Sums over consecutive numbers, cut into tiles. -/
module

public import Idealize.ShloMosaic.Lib.Pointwise

@[expose] public section

namespace Cert.ReferenceIdeal.Steps

/-- A sum over `T` tiles of `b` numbers each. -/
theorem sum_tiles {M : Type} [AddCommMonoid M] (b T : ℕ) (g : ℕ → M) :
    ∑ n ∈ Finset.range (b * T), g n = ∑ t ∈ Finset.range T, ∑ r ∈ Finset.range b, g (b * t + r) := by
  induction T with
  | zero => simp
  | succ T ih => rw [Nat.mul_succ, Finset.sum_range_add, ih, Finset.sum_range_succ]

/-- The same over bounded numbers. -/
theorem sum_tiles_fin {M : Type} [AddCommMonoid M] (b T : ℕ) (g : ℕ → M) :
    ∑ n ∈ Finset.range (b * T), g n = ∑ t : Fin T, ∑ r : Fin b, g (b * t.val + r.val) := by
  rw [sum_tiles, Finset.sum_range]
  exact Finset.sum_congr rfl fun t _ => Finset.sum_range _

/-- Zeros past the end add nothing. -/
theorem sum_past {M : Type} [AddCommMonoid M] (n N : ℕ) (h : n ≤ N) (g : ℕ → M) (hg : ∀ i, n ≤ i → g i = 0) :
    ∑ i ∈ Finset.range N, g i = ∑ i ∈ Finset.range n, g i := by
  obtain ⟨d, rfl⟩ := Nat.exists_eq_add_of_le h
  rw [Finset.sum_range_add, Finset.sum_eq_zero (s := Finset.range d) fun i _ => hg _ (by omega), add_zero]

end Cert.ReferenceIdeal.Steps
-- ==== Proof.Ideal.Total.lean ====
/- The kernel's sums after the last block are the sums over all anchors. -/
module

public import proofs.«01_k».proof.Proof.Ideal.Host
public import proofs.«01_k».proof.Proof.Ref.Tiles

@[expose] public section

set_option maxRecDepth 16384

noncomputable section

namespace Cert.KernelIdeal.Body

open Cert.KernelIdeal Cert.KernelIdeal.Gen
open Idealize.ShloMosaic Idealize.ShloMosaic.TcCoe
open Cert.ReferenceIdeal.Steps (laneOf all sum_tiles_fin sum_past)

/-- The sum over a block. -/
theorem blockSum_eq (v : Vec Ideal S64x128 .f32) :
    (blockSum (F := Ideal) v : EReal) = ∑ r : Fin 64, ∑ l : Fin 128, (v (ix2 r l) : EReal) := by
  have e : (blockSum (F := Ideal) v : EReal)
      = ∑ i : S1x64x128.Idx, (shapeCast S1x64x128 v shapeCasts_S64x128_S1x64x128 i : EReal) :=
    Ideal.multiReduction_add_total (φ := .f32) (shapeCast S1x64x128 v shapeCasts_S64x128_S1x64x128) 0x00000000#32
      reduces_S1x64x128_S1 (by decide) (.inl rfl) rfl _
  refine e.trans ((sum_idx3 _).trans ((Fin.sum_univ_one _).trans ?_))
  refine Finset.sum_congr rfl fun r _ => Finset.sum_congr rfl fun l _ => ?_
  pointwise

variable (A0 : Vec Ideal S7x1875x128 .f32) (A1 : Vec Ideal S10x1875x128 .f32) (A2 : Vec Ideal S1875x128 .f32)
    (x3 : Vec Ideal S50x7 .f32) (x4 : Vec Ideal S50 .f32) (k : ℕ)

/-- What the anchor at row `n` adds to the sum, zero past the last row. -/
def rowSum (n : ℕ) : EReal :=
  ∑ l : Fin 128, if h : n < 1875 then (anchor (F := Ideal) A0 A1 A2 x3 x4 ⟨n, h⟩ l k : EReal) else 0

theorem zero_eq : (num (F := Ideal) 0x00000000#32 : EReal) = 0 := by
  show Ideal.ofBits .f32 0x00000000#32 = 0
  simp

theorem partAt_eq (t : ℕ) : (partAt (F := Ideal) A0 A1 A2 x3 x4 t k : EReal) = ∑ r : Fin 64, rowSum A0 A1 A2 x3 x4 k (64 * t + r.val) := by
  unfold partAt
  refine (blockSum_eq _).trans ?_
  unfold rowSum
  refine Finset.sum_congr rfl fun r _ => Finset.sum_congr rfl fun l _ => ?_
  by_cases h : 64 * t + r.val < 1875
  · rw [dif_pos h]; exact dif_pos h
  · rw [dif_neg h]; exact (dif_neg h).trans zero_eq

theorem accAt_eq (t : ℕ) : (accAt (F := Ideal) A0 A1 A2 x3 x4 t k : EReal)
    = ∑ s ∈ Finset.range (t + 1), (partAt (F := Ideal) A0 A1 A2 x3 x4 s k : EReal) := by
  induction t with
  | zero =>
    rw [Finset.sum_range_one]
    show (num (F := Ideal) 0x00000000#32 : EReal) + _ = _
    rw [zero_eq, zero_add]
  | succ t ih =>
    rw [Finset.sum_range_succ, ← ih]
    rfl

/-- The last sums, row by row. -/
theorem accAt_rows : (accAt (F := Ideal) A0 A1 A2 x3 x4 29 k : EReal)
    = ∑ n : Fin 1875, ∑ l : Fin 128, (anchor (F := Ideal) A0 A1 A2 x3 x4 n l k : EReal) := by
  rw [accAt_eq, Finset.sum_congr rfl fun s _ => partAt_eq A0 A1 A2 x3 x4 k s, Finset.sum_range,
    ← sum_tiles_fin 64 30 (rowSum A0 A1 A2 x3 x4 k),
    sum_past 1875 (64 * 30) (by decide) _ fun i hi => by
      unfold rowSum
      exact Finset.sum_eq_zero fun l _ => dif_neg (by omega),
    Finset.sum_range]
  refine Finset.sum_congr rfl fun n _ => ?_
  unfold rowSum
  exact Finset.sum_congr rfl fun l _ => dif_pos n.isLt

/-- What the anchor of number `p` adds. -/
def nth (p : ℕ) : EReal :=
  anchor (F := Ideal) A0 A1 A2 x3 x4 (⟨p / 128 % 1875, Nat.mod_lt _ (by decide)⟩ : Fin 1875) (⟨p % 128, Nat.mod_lt _ (by decide)⟩ : Fin 128) k

/-- The last sums, anchor by anchor. -/
theorem accAt_all (f : Fin 6 → Fin 200 → Fin 200 → EReal)
    (hf : ∀ a h w, (anchor (F := Ideal) A0 A1 A2 x3 x4 (rowOf a h w) (lanOf a h w) k : EReal) = f a h w) :
    (accAt (F := Ideal) A0 A1 A2 x3 x4 29 k : EReal) = ∑ a, ∑ h, ∑ w, f a h w := by
  rw [accAt_rows]
  have e1 : ∑ n : Fin 1875, ∑ l : Fin 128, (anchor (F := Ideal) A0 A1 A2 x3 x4 n l k : EReal)
      = ∑ n : Fin 1875, ∑ l : Fin 128, nth A0 A1 A2 x3 x4 k (128 * n.val + l.val) := by
    refine Finset.sum_congr rfl fun n _ => Finset.sum_congr rfl fun l _ => ?_
    unfold nth
    congr 1
    · exact Fin.ext (by show n.val = (128 * n.val + l.val) / 128 % 1875; omega)
    · exact Fin.ext (by show l.val = (128 * n.val + l.val) % 128; omega)
  have e2 : ∑ a, ∑ h, ∑ w, f a h w
      = ∑ a : Fin 6, ∑ h : Fin 200, ∑ w : Fin 200, nth A0 A1 A2 x3 x4 k (200 * (200 * a.val + h.val) + w.val) := by
    refine Finset.sum_congr rfl fun a _ => Finset.sum_congr rfl fun h _ => Finset.sum_congr rfl fun w _ => ?_
    rw [← hf a h w]
    unfold nth
    congr 1
    · exact Fin.ext (by
        show (a.val * 40000 + h.val * 200 + w.val) / 128 = (200 * (200 * a.val + h.val) + w.val) / 128 % 1875; omega)
    · exact Fin.ext (by show (a.val * 40000 + h.val * 200 + w.val) % 128 = (200 * (200 * a.val + h.val) + w.val) % 128; omega)
  have e3 : ∑ a : Fin 6, ∑ h : Fin 200, ∑ w : Fin 200, nth A0 A1 A2 x3 x4 k (200 * (200 * a.val + h.val) + w.val)
      = ∑ p ∈ Finset.range (200 * (200 * 6)), nth A0 A1 A2 x3 x4 k p := by
    rw [sum_tiles_fin 200 (200 * 6), ← Finset.sum_range fun q => ∑ w : Fin 200, nth A0 A1 A2 x3 x4 k (200 * q + w.val),
      sum_tiles_fin 200 6]
  rw [e1, e2, e3, ← sum_tiles_fin 128 1875]

end Cert.KernelIdeal.Body

end
-- ==== Proof.Ref.Read.lean ====
/- What the reference's buffers hold in the end, each in terms of buffers written before it. -/
module

public import proofs.«01_k».proof.Proof.Ref.Stage
public import proofs.«01_k».proof.Proof.Ref.Kept

@[expose] public section

set_option maxRecDepth 16384

noncomputable section

namespace Cert.ReferenceIdeal.Steps

open Cert.ReferenceIdeal Cert.ReferenceIdeal.Gen Idealize.ShloMosaic Idealize.ShloMosaic.TcCoe Idealize.ShloMosaic.Tactic
open Idealize.SL.Sem Idealize.ShloMosaic.StableHlo

variable {F : FTy → Type} [FloatOps F] (W : Valuation τ sig (Elt F))

/-- What a buffer holds in the end. -/
abbrev fin (b : Ref sig .tc) := after ops W (Proc.devRef .tc b)

theorem read_ious : fin W main_v122 = ious (flat (fin W main_arg0)) (fin W main_arg3) := by sl_kernel_rfl
theorem read_top : fin W main_v123 = bestR (fin W main_v122) := by sl_kernel_rfl
theorem read_first : fin W main_v124 = firstR (fin W main_v122) := by sl_kernel_rfl
theorem read_pos : fin W main_v126 = posR (fin W main_v123) := by sl_kernel_rfl
theorem read_posGrid : fin W main_v129 = grid (fin W main_v126) := by sl_kernel_rfl
theorem read_negGrid : fin W main_v130 = grid (negR (fin W main_v123)) := by sl_kernel_rfl
theorem read_boxNeg : fin W main_v133 = cmpi .slt (fin W main_v124) (broadcastInDim S240000 ![] bcast_S_S240000 (constantI S_ 32 0#32)) := by
  sl_kernel_rfl
theorem read_boxAdd : fin W main_v135 = addi (fin W main_v124) (broadcastInDim S240000 ![] bcast_S_S240000 (constantI S_ 32 50#32)) := by
  sl_kernel_rfl
theorem read_boxWrap : fin W main_v136 = select (fin W main_v133) (fin W main_v135) (fin W main_v124) := by sl_kernel_rfl
theorem read_boxIdx : fin W main_v137 = uprightP (fin W main_v136) := by sl_kernel_rfl
theorem read_boxRow : fin W main_v138
    = Host.gather gather_S50x7_S240000x1_S240000x7_1_0_n_n_0_1_17 (fin W main_arg3) (fin W main_v137) := by sl_kernel_rfl
theorem read_boxSel : fin W main_v140 = shapeCast S6x200x200x7 (boxSel (fin W main_v126) (fin W main_v138)) shapeCasts_S240000x7_S6x200x200x7 := by
  sl_kernel_rfl
theorem read_labelNeg : fin W main_v142 = cmpi .slt (fin W main_v124) (broadcastInDim S240000 ![] bcast_S_S240000 (constantI S_ 32 0#32)) := by
  sl_kernel_rfl
theorem read_labelAdd : fin W main_v144 = addi (fin W main_v124) (broadcastInDim S240000 ![] bcast_S_S240000 (constantI S_ 32 50#32)) := by
  sl_kernel_rfl
theorem read_labelWrap : fin W main_v145 = select (fin W main_v142) (fin W main_v144) (fin W main_v124) := by sl_kernel_rfl
theorem read_labelIdx : fin W main_v146 = uprightP (fin W main_v145) := by sl_kernel_rfl
theorem read_labelRow : fin W main_v147
    = Host.gather gather_S50_S240000x1_S240000_n_0_n_n_0_1_1 (fin W main_arg4) (fin W main_v146) := by sl_kernel_rfl
theorem read_labelSel : fin W main_v149 = grid (labelSel (fin W main_v126) (fin W main_v147)) := by sl_kernel_rfl
theorem read_targets : fin W main_v155 = targets (fin W main_v149) (fin W main_v129) := by sl_kernel_rfl
theorem read_sigmoid : fin W main_v161 = sigmoid (fin W main_arg1) := by sl_kernel_rfl
theorem read_entropy : fin W main_v170 = entropy (fin W main_arg1) (fin W main_v155) := by sl_kernel_rfl
theorem read_focal : fin W main_v185 = focalR (fin W main_v155) (fin W main_v161) (fin W main_v170) := by sl_kernel_rfl
theorem read_valid : fin W main_v187 = classAxis (ori (fin W main_v129) (fin W main_v130)) := by sl_kernel_rfl
theorem read_clsTerm : fin W main_v190 = mulf (fin W main_v185) (everyClass (fin W main_v187)) := by sl_kernel_rfl
theorem read_clsSum : fin W main_v191
    = Host.reduceAdd (fin W main_v190) (constant S_ .f32 0x00000000#32) reducesTo_S6x10x200x200_S_d0_1_2_3 h_S_ := by sl_kernel_rfl
theorem read_clsWord : fin W main_v192 = extui 32 (fin W main_v187) natLt_1_32 := by sl_kernel_rfl
theorem read_clsCount : fin W main_v193
    = Host.reduce IntOp.addi (fin W main_v192) (constantI S_ 32 0#32) reducesTo_S6x1x200x200_S_d0_1_2_3 h_S_ := by sl_kernel_rfl
theorem read_clsQuot : fin W main_v197 = Host.divf (fin W main_v191) (addf (sitofp .f32 (fin W main_v193)) (constant S_ .f32 0x358637BD#32)) := by
  sl_kernel_rfl
theorem read_posWord : fin W main_v211 = extui 32 (fin W main_v129) natLt_1_32 := by sl_kernel_rfl
theorem read_posCount : fin W main_v212
    = Host.reduce IntOp.addi (fin W main_v211) (constantI S_ 32 0#32) reducesTo_S6x200x200_S_d0_1_2 h_S_ := by sl_kernel_rfl
theorem read_regTerm : fin W main_v215 = regTerm (subf (fin W main_arg0) (fin W main_v140)) (fin W main_v129) := by sl_kernel_rfl
theorem read_regSum : fin W main_v216
    = Host.reduceAdd (fin W main_v215) (constant S_ .f32 0x00000000#32) reducesTo_S6x200x200x7_S_d0_1_2_3 h_S_ := by sl_kernel_rfl
theorem read_posAny : fin W main_v213 = cmpi .sgt (fin W main_v212) (constantI S_ 32 0#32) := by sl_kernel_rfl
theorem read_posSeven : fin W main_v217 = muli (fin W main_v212) (constantI S_ 32 7#32) := by sl_kernel_rfl
theorem read_posMax : fin W main_v218 = maxsi (fin W main_v217) (constantI S_ 32 1#32) := by sl_kernel_rfl
theorem read_regDiv : fin W main_v220 = Host.divf (fin W main_v216) (sitofp .f32 (fin W main_v218)) := by sl_kernel_rfl
theorem read_regSel : fin W main_v221 = select (fin W main_v213) (fin W main_v220) (constant S_ .f32 0x00000000#32) := by sl_kernel_rfl
theorem read_bce : fin W main_v232 = bceR (fin W main_arg2) (fin W main_v129) := by sl_kernel_rfl
theorem read_either : fin W main_v223 = ori (fin W main_v129) (fin W main_v130) := by sl_kernel_rfl
theorem read_eitherWord : fin W main_v233 = extui 32 (fin W main_v223) natLt_1_32 := by sl_kernel_rfl
theorem read_eitherCount : fin W main_v234
    = Host.reduce IntOp.addi (fin W main_v233) (constantI S_ 32 0#32) reducesTo_S6x200x200_S_d0_1_2 h_S_ := by sl_kernel_rfl
theorem read_objTerm : fin W main_v237 = mulf (fin W main_v232) (uitofp .f32 (fin W main_v223)) := by sl_kernel_rfl
theorem read_objSum : fin W main_v238
    = Host.reduceAdd (fin W main_v237) (constant S_ .f32 0x00000000#32) reducesTo_S6x200x200_S_d0_1_2 h_S_ := by sl_kernel_rfl
theorem read_eitherAny : fin W main_v235 = cmpi .sgt (fin W main_v234) (constantI S_ 32 0#32) := by sl_kernel_rfl
theorem read_eitherMax : fin W main_v239 = maxsi (fin W main_v234) (constantI S_ 32 1#32) := by sl_kernel_rfl
theorem read_objDiv : fin W main_v241 = Host.divf (fin W main_v238) (sitofp .f32 (fin W main_v239)) := by sl_kernel_rfl
theorem read_objSel : fin W main_v242 = select (fin W main_v235) (fin W main_v241) (constant S_ .f32 0x00000000#32) := by sl_kernel_rfl
theorem read_total : fin W main_v247 = totalR (fin W main_v197) (fin W main_v221) (fin W main_v242) := by sl_kernel_rfl

end Cert.ReferenceIdeal.Steps

end
-- ==== Proof.Ref.Value.lean ====
/- What the reference's four results hold, in the kernel's terms. -/
module

public import proofs.«01_k».proof.Proof.Ref.Read
public import proofs.«01_k».proof.Proof.Ref.Kept
public import proofs.«01_k».proof.Proof.Ref.Sum

@[expose] public section

set_option maxRecDepth 16384

noncomputable section

namespace Cert.ReferenceIdeal.Steps

open Cert.ReferenceIdeal Cert.ReferenceIdeal.Gen Idealize.ShloMosaic Idealize.ShloMosaic.TcCoe
open Idealize.SL.Sem Idealize.ShloMosaic.StableHlo
open Cert.KernelIdeal.Body (num clsOf regOf objOf totalOf)

variable (W : Valuation τ sig (Elt Ideal))

/-- The five arguments. -/
abbrev a0 : Vec Ideal S6x200x200x7 .f32 := W (Proc.devRef .tc main_arg0)
abbrev a1 : Vec Ideal S6x10x200x200 .f32 := W (Proc.devRef .tc main_arg1)
abbrev a2 : Vec Ideal S6x200x200 .f32 := W (Proc.devRef .tc main_arg2)
abbrev a3 : Vec Ideal S50x7 .f32 := W (Proc.devRef .tc main_arg3)
abbrev a4 : Vec Ideal S50 .i32 := W (Proc.devRef .tc main_arg4)

theorem k0 : fin W main_arg0 = a0 W := (kept W).1
theorem k1 : fin W main_arg1 = a1 W := (kept W).2.1
theorem k2 : fin W main_arg2 = a2 W := (kept W).2.2.1
theorem k3 : fin W main_arg3 = a3 W := (kept W).2.2.2.1
theorem k4 : fin W main_arg4 = a4 W := (kept W).2.2.2.2

/-- Sum `k` over all anchors, from the arguments. -/
abbrev tot (k : ℕ) : EReal := all (a0 W) (a1 W) (a2 W) (a3 W) (a4 W) k

theorem tot_three : tot W 3 = ((cnt (posB (a0 W) (a3 W)) : ℕ) : EReal) := all_three _ _ _ _ _
theorem tot_four : tot W 4 = ((cnt (valB (a0 W) (a3 W)) : ℕ) : EReal) := all_four _ _ _ _ _

/-! ## The arrays -/

theorem val_ious : fin W main_v122 = vi (a0 W) (a3 W) := by rw [read_ious, k0, k3]; unfold vi; rfl
theorem val_pos : fin W main_v126 = fp (a0 W) (a3 W) := by rw [read_pos, read_top, val_ious]; unfold fp; rfl
theorem val_posGrid : fin W main_v129 = grid (F := Ideal) (fp (a0 W) (a3 W)) := by rw [read_posGrid, val_pos]
theorem val_negGrid : fin W main_v130 = grid (F := Ideal) (fn (a0 W) (a3 W)) := by
  rw [read_negGrid, read_top, val_ious]; unfold fn; rfl
theorem val_boxIdx : fin W main_v137 = uprightP (F := Ideal) (wrap (F := Ideal) (fin W main_v124)) := by
  rw [read_boxIdx, read_boxWrap, read_boxNeg, read_boxAdd]; unfold wrap; rfl
theorem val_labelIdx : fin W main_v146 = uprightP (F := Ideal) (wrap (F := Ideal) (fin W main_v124)) := by
  rw [read_labelIdx, read_labelWrap, read_labelNeg, read_labelAdd]; unfold wrap; rfl
theorem val_box : fin W main_v140 = bx (a0 W) (a3 W) := by
  rw [read_boxSel, val_pos, read_boxRow, k3, val_boxIdx, read_first, val_ious]; unfold bx; rfl
theorem val_label : fin W main_v149 = lb (a0 W) (a3 W) (a4 W) := by
  rw [read_labelSel, val_pos, read_labelRow, k4, val_labelIdx, read_first, val_ious]; unfold lb; rfl
theorem val_targets : fin W main_v155 = tg (a0 W) (a3 W) (a4 W) := by
  rw [read_targets, val_label, val_posGrid]; unfold tg; rfl
theorem val_valid : fin W main_v187 = classAxis (F := Ideal) (fv (a0 W) (a3 W)) := by
  rw [read_valid, val_posGrid, val_negGrid]; unfold fv; rfl
theorem val_either : fin W main_v223 = fv (a0 W) (a3 W) := by
  rw [read_either, val_posGrid, val_negGrid]; unfold fv; rfl
theorem val_clsTerm : fin W main_v190 = clsArr (a0 W) (a1 W) (a3 W) (a4 W) := by
  rw [read_clsTerm, read_focal, read_sigmoid, read_entropy, val_targets, val_valid, k1]; unfold clsArr; rfl
theorem val_regTerm : fin W main_v215 = regArr (a0 W) (a3 W) := by
  rw [read_regTerm, k0, val_box, val_posGrid]; unfold regArr; rfl
theorem val_objTerm : fin W main_v237 = objArr (a0 W) (a2 W) (a3 W) := by
  rw [read_objTerm, read_bce, k2, val_posGrid, val_either]; unfold objArr; rfl

/-! ## The sums and the counts -/

theorem val_clsSum (j : S_.Idx) : (fin W main_v191 j : EReal) = tot W 0 := by
  rw [read_clsSum, val_clsTerm]; exact cls_sum _ _ _ _ _ j
theorem val_regSum (j : S_.Idx) : (fin W main_v216 j : EReal) = tot W 1 := by
  rw [read_regSum, val_regTerm]; exact reg_sum _ _ _ _ _ j
theorem val_objSum (j : S_.Idx) : (fin W main_v238 j : EReal) = tot W 2 := by
  rw [read_objSum, val_objTerm]; exact obj_sum _ _ _ _ _ j
theorem val_clsCount (j : S_.Idx) : fin W main_v193 j = BitVec.ofNat 32 (cnt (valB (a0 W) (a3 W))) := by
  rw [read_clsCount, read_clsWord, val_valid]; exact cls_count _ _ j
theorem val_posCount (j : S_.Idx) : fin W main_v212 j = BitVec.ofNat 32 (cnt (posB (a0 W) (a3 W))) := by
  rw [read_posCount, read_posWord, val_posGrid]; exact pos_count _ _ j
theorem val_eitherCount (j : S_.Idx) : fin W main_v234 j = BitVec.ofNat 32 (cnt (valB (a0 W) (a3 W))) := by
  rw [read_eitherCount, read_eitherWord, val_either]; exact val_count _ _ j

/-! ## The results -/

theorem quot_cls : fin W main_v197 = clsQuot (F := Ideal) (fin W main_v193) (fin W main_v191) := by
  rw [read_clsQuot]; unfold clsQuot; rfl
theorem quot_reg : fin W main_v221 = regQuot (F := Ideal) (fin W main_v212) (fin W main_v216) := by
  rw [read_regSel, read_posAny, read_regDiv, read_posMax, read_posSeven]; unfold regQuot; rfl
theorem quot_obj : fin W main_v242 = objQuot (F := Ideal) (fin W main_v234) (fin W main_v238) := by
  rw [read_objSel, read_eitherAny, read_objDiv, read_eitherMax]; unfold objQuot; rfl

/-- The mean focal loss. -/
theorem val_cls (j : S_.Idx) : (fin W main_v197 j : EReal) = clsOf (F := Ideal) (tot W 4) (tot W 0) := by
  rw [quot_cls]
  refine (clsQuot_eq _ _ _ (cnt_le _) j (val_clsCount W j)).trans ?_
  rw [val_clsSum, tot_four]
/-- The mean smooth distance. -/
theorem val_reg (j : S_.Idx) : (fin W main_v221 j : EReal) = regOf (F := Ideal) (tot W 3) (tot W 1) := by
  rw [quot_reg]
  refine (regQuot_eq _ _ _ (cnt_le _) j (val_posCount W j)).trans ?_
  rw [val_regSum, tot_three]
/-- The mean objectness loss. -/
theorem val_obj (j : S_.Idx) : (fin W main_v242 j : EReal) = objOf (F := Ideal) (tot W 4) (tot W 2) := by
  rw [quot_obj]
  refine (objQuot_eq _ _ _ (cnt_le _) j (val_eitherCount W j)).trans ?_
  rw [val_objSum, tot_four]

/-- The weighted total, element by element. -/
theorem totalR_at (c r b : Vec Ideal S_ .f32) (j : S_.Idx) : (totalR c r b j : EReal) = totalOf (F := Ideal) (c j) (r j) (b j) := rfl

/-- The weighted total. -/
theorem val_total (j : S_.Idx) : (fin W main_v247 j : EReal)
    = totalOf (F := Ideal) (clsOf (F := Ideal) (tot W 4) (tot W 0)) (regOf (F := Ideal) (tot W 3) (tot W 1)) (objOf (F := Ideal) (tot W 4) (tot W 2)) := by
  rw [read_total]
  refine (totalR_at _ _ _ j).trans ?_
  rw [val_cls, val_reg, val_obj]

end Cert.ReferenceIdeal.Steps

end
-- ==== Proof.Both.Equal.lean ====
/- The kernel's four results are the reference's. -/
module

public import proofs.«01_k».proof.Defs
public import proofs.«01_k».proof.Proof.Ideal.Final
public import proofs.«01_k».proof.Proof.Ideal.Total
public import proofs.«01_k».proof.Proof.Ref.Kept
public import proofs.«01_k».proof.Proof.Ref.Value

@[expose] public section

set_option maxRecDepth 16384

noncomputable section

namespace Cert.Both

open Idealize.ShloMosaic Idealize.ShloMosaic.TcCoe
open Cert.KernelIdeal.Body (sums outOf cell cell_at out4 run_values anchor_at accAt_all pre_0 pre_1 pre_2 pre_3 pre_4)
open Cert.KernelIdeal.Gen (V)
open Idealize.SL.Sem Idealize.ShloMosaic.StableHlo
open Cert.ReferenceIdeal.Steps (fin tot all laneOf val_total val_cls val_reg val_obj)

/-- Equal arguments, equal sums. -/
theorem all_congr {x0 y0 : Vec Ideal Cert.ReferenceIdeal.S6x200x200x7 .f32} {x1 y1 : Vec Ideal Cert.ReferenceIdeal.S6x10x200x200 .f32}
    {x2 y2 : Vec Ideal Cert.ReferenceIdeal.S6x200x200 .f32} {x3 y3 : Vec Ideal Cert.ReferenceIdeal.S50x7 .f32}
    {x4 y4 : Vec Ideal Cert.ReferenceIdeal.S50 .i32} (h0 : y0 = x0) (h1 : y1 = x1) (h2 : y2 = x2) (h3 : y3 = x3) (h4 : y4 = x4) (k : ℕ) :
    all x0 x1 x2 x3 x4 k = all y0 y1 y2 y3 y4 k := by
  rw [h0, h1, h2, h3, h4]

section
variable (m : (ℓ : Loc Cert.KernelIdeal.nD Cert.KernelIdeal.τ Cert.KernelIdeal.sig) → Buf (Elt Ideal) ℓ)
  (c : Dev Cert.KernelIdeal.nD)

/-- The kernel's last sums are the sums over all anchors. -/
theorem sums_all (k : ℕ) : (sums m c 29 k : EReal)
    = all (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) k := by
  have e3 : V m c Cert.KernelIdeal.main_arg3 = m ((c.tc : Thread Cert.KernelIdeal.nD Cert.KernelIdeal.τ).loc Cert.KernelIdeal.main_arg3) := pre_3 _
  have e4 : V m c Cert.KernelIdeal.main_v6 = sitofp (F := Ideal) .f32
      (m ((c.tc : Thread Cert.KernelIdeal.nD Cert.KernelIdeal.τ).loc Cert.KernelIdeal.main_arg4) : Vec Ideal Cert.KernelIdeal.S50 .i32) := pre_4 _
  unfold sums all
  rw [e3, e4]
  exact accAt_all _ _ _ _ _ k _ fun a h w => anchor_at _ _ _ _ _ _ _ _ (pre_0 _) (pre_1 _) (pre_2 _) a h w k

variable (W : Valuation Cert.ReferenceIdeal.τ Cert.ReferenceIdeal.sig (Elt Ideal))
  (hs : ∀ k, (sums m c 29 k : EReal) = tot W k)
include hs

/-- The results, one by one. -/
theorem out_0 : (outOf (F := Ideal) (sums m c 29) 0 : EReal) = Cert.KernelIdeal.Body.totalOf (F := Ideal)
    (Cert.KernelIdeal.Body.clsOf (F := Ideal) (tot W 4) (tot W 0)) (Cert.KernelIdeal.Body.regOf (F := Ideal) (tot W 3) (tot W 1))
    (Cert.KernelIdeal.Body.objOf (F := Ideal) (tot W 4) (tot W 2)) := by
  rw [← hs 0, ← hs 1, ← hs 2, ← hs 3, ← hs 4]; rfl
theorem out_1 : (outOf (F := Ideal) (sums m c 29) 1 : EReal) = Cert.KernelIdeal.Body.clsOf (F := Ideal) (tot W 4) (tot W 0) := by
  rw [← hs 0, ← hs 4]; rfl
theorem out_2 : (outOf (F := Ideal) (sums m c 29) 2 : EReal) = Cert.KernelIdeal.Body.regOf (F := Ideal) (tot W 3) (tot W 1) := by
  rw [← hs 1, ← hs 3]; rfl
theorem out_3 : (outOf (F := Ideal) (sums m c 29) 3 : EReal) = Cert.KernelIdeal.Body.objOf (F := Ideal) (tot W 4) (tot W 2) := by
  rw [← hs 2, ← hs 4]; rfl

/-- The results, as arrays. -/
theorem same_0 : fin W Cert.ReferenceIdeal.main_v247 = cell (out4 (outOf (sums m c 29))) ![0] Cert.KernelIdeal.Gen.slices_S4_S1_0 :=
  funext fun j => (val_total W j).trans ((out_0 m c W hs).symm.trans (cell_at _ 0 _ j).symm)
theorem same_1 : fin W Cert.ReferenceIdeal.main_v197 = cell (out4 (outOf (sums m c 29))) ![1] Cert.KernelIdeal.Gen.slices_S4_S1_1 :=
  funext fun j => (val_cls W j).trans ((out_1 m c W hs).symm.trans (cell_at _ 1 _ j).symm)
theorem same_2 : fin W Cert.ReferenceIdeal.main_v221 = cell (out4 (outOf (sums m c 29))) ![2] Cert.KernelIdeal.Gen.slices_S4_S1_2 :=
  funext fun j => (val_reg W j).trans ((out_2 m c W hs).symm.trans (cell_at _ 2 _ j).symm)
theorem same_3 : fin W Cert.ReferenceIdeal.main_v242 = cell (out4 (outOf (sums m c 29))) ![3] Cert.KernelIdeal.Gen.slices_S4_S1_3 :=
  funext fun j => (val_obj W j).trans ((out_3 m c W hs).symm.trans (cell_at _ 3 _ j).symm)
end

/-- From equal arguments both programs end with equal results. -/
theorem algebraic : Cert.algebraic_KernelIdeal_ReferenceIdeal (hKernelIdeal := Cert.KernelIdeal.Gen.facts)
    (hReferenceIdeal := Cert.ReferenceIdeal.Gen.facts) := by
  intro m g m' g' _ he
  refine ⟨fun c => cell (out4 (outOf (sums m c 29))) ![0] Cert.KernelIdeal.Gen.slices_S4_S1_0,
    fun c => cell (out4 (outOf (sums m c 29))) ![1] Cert.KernelIdeal.Gen.slices_S4_S1_1,
    fun c => cell (out4 (outOf (sums m c 29))) ![2] Cert.KernelIdeal.Gen.slices_S4_S1_2,
    fun c => cell (out4 (outOf (sums m c 29))) ![3] Cert.KernelIdeal.Gen.slices_S4_S1_3, run_values m g, ?_⟩
  refine (θ_run _ _ _).mono (fun r h c => ?_) (Cert.ReferenceIdeal.Steps.run m' g')
  obtain ⟨k0, k1, k2, k3, k4⟩ := Cert.ReferenceIdeal.Steps.kept (launchContents m' c)
  have hs : ∀ k, (sums m c 29 k : EReal) = tot (launchContents m' c) k := fun k => by
    obtain ⟨h0, h1, h2, h3, h4⟩ := he c
    exact (sums_all m c k).trans (all_congr h0 h1 h2 h3 h4 k)
  exact ⟨(h c Cert.ReferenceIdeal.main_v247).trans (same_0 m c _ hs), (h c Cert.ReferenceIdeal.main_v197).trans (same_1 m c _ hs),
    (h c Cert.ReferenceIdeal.main_v221).trans (same_2 m c _ hs), (h c Cert.ReferenceIdeal.main_v242).trans (same_3 m c _ hs),
    (h c Cert.ReferenceIdeal.main_arg0).trans k0, (h c Cert.ReferenceIdeal.main_arg1).trans k1,
    (h c Cert.ReferenceIdeal.main_arg2).trans k2, (h c Cert.ReferenceIdeal.main_arg3).trans k3,
    (h c Cert.ReferenceIdeal.main_arg4).trans k4⟩

end Cert.Both

end
-- ==== Proof.lean ====
/- The proof of the certificate's claims: each is proved in a module of its own and gathered here. -/
module

public import proofs.«01_k».proof.Defs
public import proofs.«01_k».proof.Proof.Ideal.Printed
public import proofs.«01_k».proof.Proof.Ref.Kept
public import proofs.«01_k».proof.Proof.Both.Equal

@[expose] public section

noncomputable section

namespace Cert.Proof

theorem claim : Cert.Claim := ⟨Cert.Kernel.Gen.facts, Cert.KernelIdeal.Gen.facts, Cert.ReferenceIdeal.Gen.facts,
  fun m g _ => Cert.Printed.quiescent m g, fun m g _ => Cert.KernelIdeal.Body.quiescent m g,
  fun m g _ => Cert.ReferenceIdeal.Steps.quiescent m g, trivial, Cert.Both.algebraic⟩

end Cert.Proof

end
